-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpDownDx (m : (ℓ : Loc Cert.MlpDownDx.nD Cert.MlpDownDx.τ Cert.MlpDownDx.sig) → Buf (Elt Bits) ℓ) : Prop :=
  True

def Pre_MlpDownDxIdeal (m : (ℓ : Loc Cert.MlpDownDxIdeal.nD Cert.MlpDownDxIdeal.τ Cert.MlpDownDxIdeal.sig) → Buf (Elt Ideal) ℓ) : Prop :=
  True

def Pre_MlpDownDxRefIdeal (m : (ℓ : Loc Cert.MlpDownDxRefIdeal.nD Cert.MlpDownDxRefIdeal.τ Cert.MlpDownDxRefIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_MlpUpDx (m : (ℓ : Loc Cert.MlpUpDx.nD Cert.MlpUpDx.τ Cert.MlpUpDx.sig) → Buf (Elt Bits) ℓ) : Prop :=
  True

def Pre_MlpUpDxIdeal (m : (ℓ : Loc Cert.MlpUpDxIdeal.nD Cert.MlpUpDxIdeal.τ Cert.MlpUpDxIdeal.sig) → Buf (Elt Ideal) ℓ) : Prop :=
  True

def Pre_MlpUpDxRefIdeal (m : (ℓ : Loc Cert.MlpUpDxRefIdeal.nD Cert.MlpUpDxRefIdeal.τ Cert.MlpUpDxRefIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1))
      ∧ r.2.sem = fun _ => 0)

def quiescent_MlpDownDx [hMlpDownDx : Cert.MlpDownDx.Facts] : Prop :=
  ∀ (m : (ℓ : Loc Cert.MlpDownDx.nD Cert.MlpDownDx.τ Cert.MlpDownDx.sig) → Buf (Elt Bits) ℓ) (g : Dev Cert.MlpDownDx.nD → PrngReg), Pre_MlpDownDx m →
    θ_run (Cert.MlpDownDx.defs (F := Bits)) (onTc (τ := Cert.MlpDownDx.τ) (Cert.MlpDownDx.main (F := Bits))) ⟨m, fun _ => 0, g⟩ (fun r => (∀ c : Dev Cert.MlpDownDx.nD,
      r.2.mem ((c.tc : Thread Cert.MlpDownDx.nD Cert.MlpDownDx.τ).loc Cert.MlpDownDx.main_arg0) = m ((c.tc : Thread Cert.MlpDownDx.nD Cert.MlpDownDx.τ).loc Cert.MlpDownDx.main_arg0)
      ∧ r.2.mem ((c.tc : Thread Cert.MlpDownDx.nD Cert.MlpDownDx.τ).loc Cert.MlpDownDx.main_arg1) = m ((c.tc : Thread Cert.MlpDownDx.nD Cert.MlpDownDx.τ).loc Cert.MlpDownDx.main_arg1)
      ∧ r.2.mem ((c.tc : Thread Cert.MlpDownDx.nD Cert.MlpDownDx.τ).loc Cert.MlpDownDx.main_arg2) = m ((c.tc : Thread Cert.MlpDownDx.nD Cert.MlpDownDx.τ).loc Cert.MlpDownDx.main_arg2))
      ∧ r.2.sem = fun _ => 0)

def quiescent_MlpDownDxIdeal [hMlpDownDxIdeal : Cert.MlpDownDxIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg), Pre_MlpDownDxIdeal m →
    θ_run (Cert.MlpDownDxIdeal.defs (F := Ideal)) (onTc (τ := Cert.MlpDownDxIdeal.τ) (Cert.MlpDownDxIdeal.main (F := Ideal))) ⟨m, fun _ => 0, g⟩ (fun r => (∀ c : Dev Cert.MlpDownDxIdeal.nD,
      r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
      ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
      ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ r.2.sem = fun _ => 0)

def quiescent_MlpDownDxRefIdeal [hMlpDownDxRefIdeal : Cert.MlpDownDxRefIdeal.Facts] : Prop :=
  ∀ (m : (ℓ : Loc Cert.MlpDownDxRefIdeal.nD Cert.MlpDownDxRefIdeal.τ Cert.MlpDownDxRefIdeal.sig) → Buf (Elt Ideal) ℓ) (g : Dev Cert.MlpDownDxRefIdeal.nD → PrngReg), Pre_MlpDownDxRefIdeal m →
    θ_run (Cert.MlpDownDxRefIdeal.defs (F := Ideal)) (onTc (τ := Cert.MlpDownDxRefIdeal.τ) (Cert.MlpDownDxRefIdeal.main (F := Ideal))) ⟨m, fun _ => 0, g⟩ (fun r => (∀ c : Dev Cert.MlpDownDxRefIdeal.nD,
      r.2.mem ((c.tc : Thread Cert.MlpDownDxRefIdeal.nD Cert.MlpDownDxRefIdeal.τ).loc Cert.MlpDownDxRefIdeal.main_arg0) = m ((c.tc : Thread Cert.MlpDownDxRefIdeal.nD Cert.MlpDownDxRefIdeal.τ).loc Cert.MlpDownDxRefIdeal.main_arg0)
      ∧ r.2.mem ((c.tc : Thread Cert.MlpDownDxRefIdeal.nD Cert.MlpDownDxRefIdeal.τ).loc Cert.MlpDownDxRefIdeal.main_arg1) = m ((c.tc : Thread Cert.MlpDownDxRefIdeal.nD Cert.MlpDownDxRefIdeal.τ).loc Cert.MlpDownDxRefIdeal.main_arg1)
      ∧ r.2.mem ((c.tc : Thread Cert.MlpDownDxRefIdeal.nD Cert.MlpDownDxRefIdeal.τ).loc Cert.MlpDownDxRefIdeal.main_arg2) = m ((c.tc : Thread Cert.MlpDownDxRefIdeal.nD Cert.MlpDownDxRefIdeal.τ).loc Cert.MlpDownDxRefIdeal.main_arg2))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1))
      ∧ r.2.sem = fun _ => 0)

def quiescent_MlpUpDx [hMlpUpDx : Cert.MlpUpDx.Facts] : Prop :=
  ∀ (m : (ℓ : Loc Cert.MlpUpDx.nD Cert.MlpUpDx.τ Cert.MlpUpDx.sig) → Buf (Elt Bits) ℓ) (g : Dev Cert.MlpUpDx.nD → PrngReg), Pre_MlpUpDx m →
    θ_run (Cert.MlpUpDx.defs (F := Bits)) (onTc (τ := Cert.MlpUpDx.τ) (Cert.MlpUpDx.main (F := Bits))) ⟨m, fun _ => 0, g⟩ (fun r => (∀ c : Dev Cert.MlpUpDx.nD,
      r.2.mem ((c.tc : Thread Cert.MlpUpDx.nD Cert.MlpUpDx.τ).loc Cert.MlpUpDx.main_arg0) = m ((c.tc : Thread Cert.MlpUpDx.nD Cert.MlpUpDx.τ).loc Cert.MlpUpDx.main_arg0)
      ∧ r.2.mem ((c.tc : Thread Cert.MlpUpDx.nD Cert.MlpUpDx.τ).loc Cert.MlpUpDx.main_arg1) = m ((c.tc : Thread Cert.MlpUpDx.nD Cert.MlpUpDx.τ).loc Cert.MlpUpDx.main_arg1)
      ∧ r.2.mem ((c.tc : Thread Cert.MlpUpDx.nD Cert.MlpUpDx.τ).loc Cert.MlpUpDx.main_arg2) = m ((c.tc : Thread Cert.MlpUpDx.nD Cert.MlpUpDx.τ).loc Cert.MlpUpDx.main_arg2))
      ∧ r.2.sem = fun _ => 0)

def quiescent_MlpUpDxIdeal [hMlpUpDxIdeal : Cert.MlpUpDxIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg), Pre_MlpUpDxIdeal m →
    θ_run (Cert.MlpUpDxIdeal.defs (F := Ideal)) (onTc (τ := Cert.MlpUpDxIdeal.τ) (Cert.MlpUpDxIdeal.main (F := Ideal))) ⟨m, fun _ => 0, g⟩ (fun r => (∀ c : Dev Cert.MlpUpDxIdeal.nD,
      r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
      ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1)
      ∧ r.2.mem ((c.tc : Thread Cert.MlpUpDxIdeal.nD Cert.MlpUpDxIdeal.τ).loc Cert.MlpUpDxIdeal.main_arg2) = m ((c.tc : Thread Cert.MlpUpDxIdeal.nD Cert.MlpUpDxIdeal.τ).loc Cert.MlpUpDxIdeal.main_arg2))
      ∧ r.2.sem = fun _ => 0)

def quiescent_MlpUpDxRefIdeal [hMlpUpDxRefIdeal : Cert.MlpUpDxRefIdeal.Facts] : Prop :=
  ∀ (m : (ℓ : Loc Cert.MlpUpDxRefIdeal.nD Cert.MlpUpDxRefIdeal.τ Cert.MlpUpDxRefIdeal.sig) → Buf (Elt Ideal) ℓ) (g : Dev Cert.MlpUpDxRefIdeal.nD → PrngReg), Pre_MlpUpDxRefIdeal m →
    θ_run (Cert.MlpUpDxRefIdeal.defs (F := Ideal)) (onTc (τ := Cert.MlpUpDxRefIdeal.τ) (Cert.MlpUpDxRefIdeal.main (F := Ideal))) ⟨m, fun _ => 0, g⟩ (fun r => (∀ c : Dev Cert.MlpUpDxRefIdeal.nD,
      r.2.mem ((c.tc : Thread Cert.MlpUpDxRefIdeal.nD Cert.MlpUpDxRefIdeal.τ).loc Cert.MlpUpDxRefIdeal.main_arg0) = m ((c.tc : Thread Cert.MlpUpDxRefIdeal.nD Cert.MlpUpDxRefIdeal.τ).loc Cert.MlpUpDxRefIdeal.main_arg0)
      ∧ r.2.mem ((c.tc : Thread Cert.MlpUpDxRefIdeal.nD Cert.MlpUpDxRefIdeal.τ).loc Cert.MlpUpDxRefIdeal.main_arg1) = m ((c.tc : Thread Cert.MlpUpDxRefIdeal.nD Cert.MlpUpDxRefIdeal.τ).loc Cert.MlpUpDxRefIdeal.main_arg1)
      ∧ r.2.mem ((c.tc : Thread Cert.MlpUpDxRefIdeal.nD Cert.MlpUpDxRefIdeal.τ).loc Cert.MlpUpDxRefIdeal.main_arg2) = m ((c.tc : Thread Cert.MlpUpDxRefIdeal.nD Cert.MlpUpDxRefIdeal.τ).loc Cert.MlpUpDxRefIdeal.main_arg2))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2_0)) (v1 : (c : Dev Cert.MlpUpIdeal.nD) → Buf (Elt Ideal) ((c.tc : Thread Cert.MlpUpIdeal.nD Cert.MlpUpIdeal.τ).loc Cert.MlpUpIdeal.main_v2_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2_0) = v0 c
          ∧ r.2.mem ((c.tc : Thread Cert.MlpUpIdeal.nD Cert.MlpUpIdeal.τ).loc Cert.MlpUpIdeal.main_v2_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v5) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1))

def preserves_MlpDownDx_MlpDownDxIdeal : Prop :=
  True

def algebraic_MlpDownDxIdeal_MlpDownDxRefIdeal [hMlpDownDxIdeal : Cert.MlpDownDxIdeal.Facts] [hMlpDownDxRefIdeal : Cert.MlpDownDxRefIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg)
    (m' : (ℓ : Loc Cert.MlpDownDxRefIdeal.nD Cert.MlpDownDxRefIdeal.τ Cert.MlpDownDxRefIdeal.sig) → Buf (Elt Ideal) ℓ) (g' : Dev Cert.MlpDownDxRefIdeal.nD → PrngReg), Pre_MlpDownDxIdeal m →
    (∀ c : Dev Cert.MlpDownDxIdeal.nD,
      m' ((c.tc : Thread Cert.MlpDownDxRefIdeal.nD Cert.MlpDownDxRefIdeal.τ).loc Cert.MlpDownDxRefIdeal.main_arg0) = m ((c.tc : Thread Cert.MlpDownDxIdeal.nD Cert.MlpDownDxIdeal.τ).loc Cert.MlpDownDxIdeal.main_arg0)
      ∧ m' ((c.tc : Thread Cert.MlpDownDxRefIdeal.nD Cert.MlpDownDxRefIdeal.τ).loc Cert.MlpDownDxRefIdeal.main_arg1) = m ((c.tc : Thread Cert.MlpDownDxIdeal.nD Cert.MlpDownDxIdeal.τ).loc Cert.MlpDownDxIdeal.main_arg1)
      ∧ m' ((c.tc : Thread Cert.MlpDownDxRefIdeal.nD Cert.MlpDownDxRefIdeal.τ).loc Cert.MlpDownDxRefIdeal.main_arg2) = m ((c.tc : Thread Cert.MlpDownDxIdeal.nD Cert.MlpDownDxIdeal.τ).loc Cert.MlpDownDxIdeal.main_arg2)) →
    ∃ (v0 : (c : Dev Cert.MlpDownDxIdeal.nD) → Buf (Elt Ideal) ((c.tc : Thread Cert.MlpDownDxIdeal.nD Cert.MlpDownDxIdeal.τ).loc Cert.MlpDownDxIdeal.main_v0)),
      θ_run (Cert.MlpDownDxIdeal.defs (F := Ideal)) (onTc (τ := Cert.MlpDownDxIdeal.τ) (Cert.MlpDownDxIdeal.main (F := Ideal))) ⟨m, fun _ => 0, g⟩ (fun r => ∀ c : Dev Cert.MlpDownDxIdeal.nD,
          r.2.mem ((c.tc : Thread Cert.MlpDownDxIdeal.nD Cert.MlpDownDxIdeal.τ).loc Cert.MlpDownDxIdeal.main_v0) = v0 c
          ∧ r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
          ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
          ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ θ_run (Cert.MlpDownDxRefIdeal.defs (F := Ideal)) (onTc (τ := Cert.MlpDownDxRefIdeal.τ) (Cert.MlpDownDxRefIdeal.main (F := Ideal))) ⟨m', fun _ => 0, g'⟩ (fun r => ∀ c : Dev Cert.MlpDownDxRefIdeal.nD,
          r.2.mem ((c.tc : Thread Cert.MlpDownDxRefIdeal.nD Cert.MlpDownDxRefIdeal.τ).loc Cert.MlpDownDxRefIdeal.main_v14) = v0 c
          ∧ r.2.mem ((c.tc : Thread Cert.MlpDownDxRefIdeal.nD Cert.MlpDownDxRefIdeal.τ).loc Cert.MlpDownDxRefIdeal.main_arg0) = m' ((c.tc : Thread Cert.MlpDownDxRefIdeal.nD Cert.MlpDownDxRefIdeal.τ).loc Cert.MlpDownDxRefIdeal.main_arg0)
          ∧ r.2.mem ((c.tc : Thread Cert.MlpDownDxRefIdeal.nD Cert.MlpDownDxRefIdeal.τ).loc Cert.MlpDownDxRefIdeal.main_arg1) = m' ((c.tc : Thread Cert.MlpDownDxRefIdeal.nD Cert.MlpDownDxRefIdeal.τ).loc Cert.MlpDownDxRefIdeal.main_arg1)
          ∧ r.2.mem ((c.tc : Thread Cert.MlpDownDxRefIdeal.nD Cert.MlpDownDxRefIdeal.τ).loc Cert.MlpDownDxRefIdeal.main_arg2) = m' ((c.tc : Thread Cert.MlpDownDxRefIdeal.nD Cert.MlpDownDxRefIdeal.τ).loc Cert.MlpDownDxRefIdeal.main_arg2))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)) →
    ∃ (v0 : (c : Dev Cert.MlpDownDwIdeal.nD) → Buf (Elt Ideal) ((c.tc : Thread Cert.MlpDownDwIdeal.nD Cert.MlpDownDwIdeal.τ).loc Cert.MlpDownDwIdeal.main_v0)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v0) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v4) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1))

def preserves_MlpUpDx_MlpUpDxIdeal : Prop :=
  True

def algebraic_MlpUpDxIdeal_MlpUpDxRefIdeal [hMlpUpDxIdeal : Cert.MlpUpDxIdeal.Facts] [hMlpUpDxRefIdeal : Cert.MlpUpDxRefIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg)
    (m' : (ℓ : Loc Cert.MlpUpDxRefIdeal.nD Cert.MlpUpDxRefIdeal.τ Cert.MlpUpDxRefIdeal.sig) → Buf (Elt Ideal) ℓ) (g' : Dev Cert.MlpUpDxRefIdeal.nD → PrngReg), Pre_MlpUpDxIdeal m →
    (∀ c : Dev Cert.MlpUpDxIdeal.nD,
      m' ((c.tc : Thread Cert.MlpUpDxRefIdeal.nD Cert.MlpUpDxRefIdeal.τ).loc Cert.MlpUpDxRefIdeal.main_arg0) = m ((c.tc : Thread Cert.MlpUpDxIdeal.nD Cert.MlpUpDxIdeal.τ).loc Cert.MlpUpDxIdeal.main_arg0)
      ∧ m' ((c.tc : Thread Cert.MlpUpDxRefIdeal.nD Cert.MlpUpDxRefIdeal.τ).loc Cert.MlpUpDxRefIdeal.main_arg1) = m ((c.tc : Thread Cert.MlpUpDxIdeal.nD Cert.MlpUpDxIdeal.τ).loc Cert.MlpUpDxIdeal.main_arg1)
      ∧ m' ((c.tc : Thread Cert.MlpUpDxRefIdeal.nD Cert.MlpUpDxRefIdeal.τ).loc Cert.MlpUpDxRefIdeal.main_arg2) = m ((c.tc : Thread Cert.MlpUpDxIdeal.nD Cert.MlpUpDxIdeal.τ).loc Cert.MlpUpDxIdeal.main_arg2)) →
    ∃ (v0 : (c : Dev Cert.MlpUpDxIdeal.nD) → Buf (Elt Ideal) ((c.tc : Thread Cert.MlpUpDxIdeal.nD Cert.MlpUpDxIdeal.τ).loc Cert.MlpUpDxIdeal.main_v2)),
      θ_run (Cert.MlpUpDxIdeal.defs (F := Ideal)) (onTc (τ := Cert.MlpUpDxIdeal.τ) (Cert.MlpUpDxIdeal.main (F := Ideal))) ⟨m, fun _ => 0, g⟩ (fun r => ∀ c : Dev Cert.MlpUpDxIdeal.nD,
          r.2.mem ((c.tc : Thread Cert.MlpUpDxIdeal.nD Cert.MlpUpDxIdeal.τ).loc Cert.MlpUpDxIdeal.main_v2) = v0 c
          ∧ r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
          ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1)
          ∧ r.2.mem ((c.tc : Thread Cert.MlpUpDxIdeal.nD Cert.MlpUpDxIdeal.τ).loc Cert.MlpUpDxIdeal.main_arg2) = m ((c.tc : Thread Cert.MlpUpDxIdeal.nD Cert.MlpUpDxIdeal.τ).loc Cert.MlpUpDxIdeal.main_arg2))
      ∧ θ_run (Cert.MlpUpDxRefIdeal.defs (F := Ideal)) (onTc (τ := Cert.MlpUpDxRefIdeal.τ) (Cert.MlpUpDxRefIdeal.main (F := Ideal))) ⟨m', fun _ => 0, g'⟩ (fun r => ∀ c : Dev Cert.MlpUpDxRefIdeal.nD,
          r.2.mem ((c.tc : Thread Cert.MlpUpDxRefIdeal.nD Cert.MlpUpDxRefIdeal.τ).loc Cert.MlpUpDxRefIdeal.main_v8) = v0 c
          ∧ r.2.mem ((c.tc : Thread Cert.MlpUpDxRefIdeal.nD Cert.MlpUpDxRefIdeal.τ).loc Cert.MlpUpDxRefIdeal.main_arg0) = m' ((c.tc : Thread Cert.MlpUpDxRefIdeal.nD Cert.MlpUpDxRefIdeal.τ).loc Cert.MlpUpDxRefIdeal.main_arg0)
          ∧ r.2.mem ((c.tc : Thread Cert.MlpUpDxRefIdeal.nD Cert.MlpUpDxRefIdeal.τ).loc Cert.MlpUpDxRefIdeal.main_arg1) = m' ((c.tc : Thread Cert.MlpUpDxRefIdeal.nD Cert.MlpUpDxRefIdeal.τ).loc Cert.MlpUpDxRefIdeal.main_arg1)
          ∧ r.2.mem ((c.tc : Thread Cert.MlpUpDxRefIdeal.nD Cert.MlpUpDxRefIdeal.τ).loc Cert.MlpUpDxRefIdeal.main_arg2) = m' ((c.tc : Thread Cert.MlpUpDxRefIdeal.nD Cert.MlpUpDxRefIdeal.τ).loc Cert.MlpUpDxRefIdeal.main_arg2))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v0)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v0) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v6) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hMlpDownDx : Cert.MlpDownDx.Facts) (hMlpDownDxIdeal : Cert.MlpDownDxIdeal.Facts) (hMlpDownDxRefIdeal : Cert.MlpDownDxRefIdeal.Facts) (hMlpDownDw : Cert.MlpDownDw.Facts) (hMlpDownDwIdeal : Cert.MlpDownDwIdeal.Facts) (hMlpDownDwRefIdeal : Cert.MlpDownDwRefIdeal.Facts) (hMlpUpDx : Cert.MlpUpDx.Facts) (hMlpUpDxIdeal : Cert.MlpUpDxIdeal.Facts) (hMlpUpDxRefIdeal : Cert.MlpUpDxRefIdeal.Facts) (hMlpUpDw : Cert.MlpUpDw.Facts) (hMlpUpDwIdeal : Cert.MlpUpDwIdeal.Facts) (hMlpUpDwRefIdeal : Cert.MlpUpDwRefIdeal.Facts),
    quiescent_Kernel (hKernel := hKernel)
    ∧ quiescent_KernelIdeal (hKernelIdeal := hKernelIdeal)
    ∧ quiescent_ReferenceIdeal (hReferenceIdeal := hReferenceIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MlpDownDx (hMlpDownDx := hMlpDownDx)
    ∧ quiescent_MlpDownDxIdeal (hMlpDownDxIdeal := hMlpDownDxIdeal)
    ∧ quiescent_MlpDownDxRefIdeal (hMlpDownDxRefIdeal := hMlpDownDxRefIdeal)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_MlpUpDx (hMlpUpDx := hMlpUpDx)
    ∧ quiescent_MlpUpDxIdeal (hMlpUpDxIdeal := hMlpUpDxIdeal)
    ∧ quiescent_MlpUpDxRefIdeal (hMlpUpDxRefIdeal := hMlpUpDxRefIdeal)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ preserves_Kernel_KernelIdeal
    ∧ algebraic_KernelIdeal_ReferenceIdeal (hKernelIdeal := hKernelIdeal) (hReferenceIdeal := hReferenceIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_MlpDownDx_MlpDownDxIdeal
    ∧ algebraic_MlpDownDxIdeal_MlpDownDxRefIdeal (hMlpDownDxIdeal := hMlpDownDxIdeal) (hMlpDownDxRefIdeal := hMlpDownDxRefIdeal)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_MlpUpDx_MlpUpDxIdeal
    ∧ algebraic_MlpUpDxIdeal_MlpUpDxRefIdeal (hMlpUpDxIdeal := hMlpUpDxIdeal) (hMlpUpDxRefIdeal := hMlpUpDxRefIdeal)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
-- ==== Kernel.lean ====
abbrev S4096x6144 : Shape := ⟨2, ![4096, 6144]⟩
abbrev S4096x128 : Shape := ⟨2, ![4096, 128]⟩
abbrev S2x8x8 : Shape := ⟨3, ![2, 8, 8]⟩
abbrev S2x32x8x128x512 : Shape := ⟨5, ![2, 32, 8, 128, 512]⟩
abbrev S2x4096x4096 : Shape := ⟨3, ![2, 4096, 4096]⟩
abbrev S4096x4096 : Shape := ⟨2, ![4096, 4096]⟩
abbrev S1x4096x2x8x8 : Shape := ⟨5, ![1, 4096, 2, 8, 8]⟩
abbrev S1x4096x1x8x8 : Shape := ⟨5, ![1, 4096, 1, 8, 8]⟩
abbrev S1x4096x8x8 : Shape := ⟨4, ![1, 4096, 8, 8]⟩
abbrev S2x4096x8x8 : Shape := ⟨4, ![2, 4096, 8, 8]⟩
abbrev S2x1x8x8 : Shape := ⟨4, ![2, 1, 8, 8]⟩
abbrev S2x32x128x8x8 : Shape := ⟨5, ![2, 32, 128, 8, 8]⟩
abbrev S_ : Shape := ⟨0, ![]⟩
abbrev S4096x2x8x8 : Shape := ⟨4, ![4096, 2, 8, 8]⟩
abbrev S2x8x4096x8 : Shape := ⟨4, ![2, 8, 4096, 8]⟩
abbrev S2x8x8x4096 : Shape := ⟨4, ![2, 8, 8, 4096]⟩
abbrev S2x4096x1024 : Shape := ⟨3, ![2, 4096, 1024]⟩
abbrev S128x1024 : Shape := ⟨2, ![128, 1024]⟩
abbrev S128x256 : Shape := ⟨2, ![128, 256]⟩
abbrev S1x2x128x8 : Shape := ⟨4, ![1, 2, 128, 8]⟩
abbrev S1x2x8x128 : Shape := ⟨4, ![1, 2, 8, 128]⟩
abbrev S1x1x2x128x512 : Shape := ⟨5, ![1, 1, 2, 128, 512]⟩
abbrev S1x128x1024 : Shape := ⟨3, ![1, 128, 1024]⟩
abbrev S1x128x256 : Shape := ⟨3, ![1, 128, 256]⟩
abbrev S2x128x512 : Shape := ⟨3, ![2, 128, 512]⟩
abbrev S128x128 : Shape := ⟨2, ![128, 128]⟩
abbrev S8x512 : Shape := ⟨2, ![8, 512]⟩
abbrev S1x1x128x8 : Shape := ⟨4, ![1, 1, 128, 8]⟩
abbrev S128x8 : Shape := ⟨2, ![128, 8]⟩
abbrev S128x512 : Shape := ⟨2, ![128, 512]⟩
abbrev S1x512 : Shape := ⟨2, ![1, 512]⟩
abbrev S512x8 : Shape := ⟨2, ![512, 8]⟩
abbrev S1x1x1x128x512 : Shape := ⟨5, ![1, 1, 1, 128, 512]⟩
abbrev S1x128x512 : Shape := ⟨3, ![1, 128, 512]⟩
abbrev S128x1 : Shape := ⟨2, ![128, 1]⟩
abbrev S1x1x8x128 : Shape := ⟨4, ![1, 1, 8, 128]⟩
abbrev S8x128 : Shape := ⟨2, ![8, 128]⟩
abbrev S1x128 : Shape := ⟨2, ![1, 128]⟩
abbrev S128x64 : Shape := ⟨2, ![128, 64]⟩
abbrev S512 : Shape := ⟨1, ![512]⟩
abbrev S1x8 : Shape := ⟨2, ![1, 8]⟩
abbrev S1x128x128 : Shape := ⟨3, ![1, 128, 128]⟩

abbrev nBuf : Space → Nat
  | .hbm => 36
  | .vmem => 32
  | .smem => 0
  | _ => 0

abbrev bufTy : (tb : Table) → Fin (tcTables nBuf tb) → BufTy
  | .hbm, ⟨0, _⟩ => ⟨S4096x6144, .f32⟩
  | .hbm, ⟨1, _⟩ => ⟨S4096x128, .f32⟩
  | .hbm, ⟨2, _⟩ => ⟨S2x8x8, .f32⟩
  | .hbm, ⟨3, _⟩ => ⟨S2x32x8x128x512, .f32⟩
  | .hbm, ⟨4, _⟩ => ⟨S2x4096x4096, .f32⟩
  | .hbm, ⟨5, _⟩ => ⟨S4096x4096, .f32⟩
  | .hbm, ⟨6, _⟩ => ⟨S1x4096x2x8x8, .f32⟩
  | .hbm, ⟨7, _⟩ => ⟨S1x4096x1x8x8, .f32⟩
  | .hbm, ⟨8, _⟩ => ⟨S1x4096x8x8, .f32⟩
  | .hbm, ⟨9, _⟩ => ⟨S1x4096x1x8x8, .f32⟩
  | .hbm, ⟨10, _⟩ => ⟨S1x4096x8x8, .f32⟩
  | .hbm, ⟨11, _⟩ => ⟨S1x4096x8x8, .f32⟩
  | .hbm, ⟨12, _⟩ => ⟨S2x4096x8x8, .f32⟩
  | .hbm, ⟨13, _⟩ => ⟨S2x1x8x8, .f32⟩
  | .hbm, ⟨14, _⟩ => ⟨S2x4096x8x8, .f32⟩
  | .hbm, ⟨15, _⟩ => ⟨S2x4096x8x8, .f32⟩
  | .hbm, ⟨16, _⟩ => ⟨S2x32x128x8x8, .f32⟩
  | .hbm, ⟨17, _⟩ => ⟨S_, .f32⟩
  | .hbm, ⟨18, _⟩ => ⟨S_, .f32⟩
  | .hbm, ⟨19, _⟩ => ⟨S2x32x128x8x8, .f32⟩
  | .hbm, ⟨20, _⟩ => ⟨S2x4096x8x8, .f32⟩
  | .hbm, ⟨21, _⟩ => ⟨S1x4096x8x8, .f32⟩
  | .hbm, ⟨22, _⟩ => ⟨S1x4096x8x8, .f32⟩
  | .hbm, ⟨23, _⟩ => ⟨S1x4096x8x8, .f32⟩
  | .hbm, ⟨24, _⟩ => ⟨S2x4096x8x8, .f32⟩
  | .hbm, ⟨25, _⟩ => ⟨S4096x2x8x8, .f32⟩
  | .hbm, ⟨26, _⟩ => ⟨S4096x2x8x8, .f32⟩
  | .hbm, ⟨27, _⟩ => ⟨S2x8x4096x8, .f32⟩
  | .hbm, ⟨28, _⟩ => ⟨S2x8x4096x8, .f32⟩
  | .hbm, ⟨29, _⟩ => ⟨S2x8x8x4096, .f32⟩
  | .hbm, ⟨30, _⟩ => ⟨S2x4096x4096, .f32⟩
  | .hbm, ⟨31, _⟩ => ⟨S2x4096x1024, .f32⟩
  | .hbm, ⟨32, _⟩ => ⟨S2x4096x1024, .f32⟩
  | .hbm, ⟨33, _⟩ => ⟨S2x8x4096x8, .f32⟩
  | .hbm, ⟨34, _⟩ => ⟨S2x8x4096x8, .f32⟩
  | .hbm, ⟨35, _⟩ => ⟨S2x8x4096x8, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x2x128x8, .f32⟩
  | .local _ .vmem, ⟨7, _⟩ => ⟨S1x2x128x8, .f32⟩
  | .local _ .vmem, ⟨8, _⟩ => ⟨S1x2x128x8, .f32⟩
  | .local _ .vmem, ⟨9, _⟩ => ⟨S1x2x128x8, .f32⟩
  | .local _ .vmem, ⟨10, _⟩ => ⟨S1x2x8x128, .f32⟩
  | .local _ .vmem, ⟨11, _⟩ => ⟨S1x2x8x128, .f32⟩
  | .local _ .vmem, ⟨12, _⟩ => ⟨S1x1x2x128x512, .f32⟩
  | .local _ .vmem, ⟨13, _⟩ => ⟨S1x1x2x128x512, .f32⟩
  | .local _ .vmem, ⟨14, _⟩ => ⟨S1x128x1024, .f32⟩
  | .local _ .vmem, ⟨15, _⟩ => ⟨S1x128x1024, .f32⟩
  | .local _ .vmem, ⟨16, _⟩ => ⟨S128x1024, .f32⟩
  | .local _ .vmem, ⟨17, _⟩ => ⟨S128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x256, .f32⟩
  | .local _ .vmem, ⟨21, _⟩ => ⟨S1x128x256, .f32⟩
  | .local _ .vmem, ⟨22, _⟩ => ⟨S1x128x256, .f32⟩
  | .local _ .vmem, ⟨23, _⟩ => ⟨S1x128x256, .f32⟩
  | .local _ .vmem, ⟨24, _⟩ => ⟨S1x2x128x8, .f32⟩
  | .local _ .vmem, ⟨25, _⟩ => ⟨S1x2x128x8, .f32⟩
  | .local _ .vmem, ⟨26, _⟩ => ⟨S1x2x128x8, .f32⟩
  | .local _ .vmem, ⟨27, _⟩ => ⟨S1x2x128x8, .f32⟩
  | .local _ .vmem, ⟨28, _⟩ => ⟨S1x2x128x8, .f32⟩
  | .local _ .vmem, ⟨29, _⟩ => ⟨S1x2x128x8, .f32⟩
  | .local _ .vmem, ⟨30, _⟩ => ⟨S2x128x512, .f32⟩
  | .local _ .vmem, ⟨31, _⟩ => ⟨S2x128x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call1_call0_cst : Ref sig .tc := ⟨.hbm, 17, rfl⟩
abbrev main_call1_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![v5.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c16_i32 : BitVec 32 := 16#32
  let v6 : BitVec 32 := Scalar.addi c16_i32 arg1
  let c0_i32 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c20_i32 : BitVec 32 := 20#32
  let v6 : BitVec 32 := Scalar.addi c20_i32 arg1
  let c0_i32 : BitVec 32 := 0#32
  ![v5.toNat, v6.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, v5.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, v5.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, c0_i32.toNat, v5.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  let c0_i32_1 : BitVec 32 := 0#32
  ![arg0.toNat, v5.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![arg0.toNat, v5.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![v5.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![arg0.toNat, v5.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![arg0.toNat, v5.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  ![arg0.toNat, v5.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, v5.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, v5.toNat, c0_i32.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c32_i32 : BitVec 32 := 32#32
  let v2 : BitVec 32 := Scalar.subi v1 c32_i32
  let c1_i32 : BitVec 32 := 1#32
  let v3 : BitVec 32 := Scalar.addi v2 c1_i32
  let v4 : BitVec 32 := Scalar.muli arg0 v3
  let v5 : BitVec 32 := Scalar.addi v0 v4
  let c0_i32 : BitVec 32 := 0#32
  let c0_i32_0 : BitVec 32 := 0#32
  ![arg0.toNat, arg1.toNat, v5.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x128x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2x128x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x2x128x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x2x128x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== ReferenceIdeal.lean ====
abbrev S4096x6144 : Shape := ⟨2, ![4096, 6144]⟩
abbrev S4096x128 : Shape := ⟨2, ![4096, 128]⟩
abbrev S2x8x8 : Shape := ⟨3, ![2, 8, 8]⟩
abbrev S2x32x8x128x512 : Shape := ⟨5, ![2, 32, 8, 128, 512]⟩
abbrev S2x4096x4096 : Shape := ⟨3, ![2, 4096, 4096]⟩
abbrev S4096x4096 : Shape := ⟨2, ![4096, 4096]⟩
abbrev S1x4096x8x8x64 : Shape := ⟨5, ![1, 4096, 8, 8, 64]⟩
abbrev S2x4096x8x8x64 : Shape := ⟨5, ![2, 4096, 8, 8, 64]⟩
abbrev S4096x1024 : Shape := ⟨2, ![4096, 1024]⟩
abbrev S1x4096x8x128 : Shape := ⟨4, ![1, 4096, 8, 128]⟩
abbrev S2x4096x8x128 : Shape := ⟨4, ![2, 4096, 8, 128]⟩
abbrev S1x4096x2x8x8 : Shape := ⟨5, ![1, 4096, 2, 8, 8]⟩
abbrev S1x4096x1x8x8 : Shape := ⟨5, ![1, 4096, 1, 8, 8]⟩
abbrev S1x4096x8x8 : Shape := ⟨4, ![1, 4096, 8, 8]⟩
abbrev S2x4096x8x8 : Shape := ⟨4, ![2, 4096, 8, 8]⟩
abbrev S2x1x8x8 : Shape := ⟨4, ![2, 1, 8, 8]⟩
abbrev S1x32x8x128x512 : Shape := ⟨5, ![1, 32, 8, 128, 512]⟩
abbrev S2x32x8x128x8x64 : Shape := ⟨6, ![2, 32, 8, 128, 8, 64]⟩
abbrev S2x32x8x8x64x128 : Shape := ⟨6, ![2, 32, 8, 8, 64, 128]⟩
abbrev S2x4096x8x8x1 : Shape := ⟨5, ![2, 4096, 8, 8, 1]⟩
abbrev S2x32x128x8x8x64 : Shape := ⟨6, ![2, 32, 128, 8, 8, 64]⟩
abbrev S2x32x128x8x8 : Shape := ⟨5, ![2, 32, 128, 8, 8]⟩
abbrev S_ : Shape := ⟨0, ![]⟩
abbrev S2x32x128x8x128 : Shape := ⟨5, ![2, 32, 128, 8, 128]⟩
abbrev S128x128 : Shape := ⟨2, ![128, 128]⟩
abbrev S1x1x128x128x1x1 : Shape := ⟨6, ![1, 1, 128, 128, 1, 1]⟩
abbrev S2x32x128x1x8x8 : Shape := ⟨6, ![2, 32, 128, 1, 8, 8]⟩
abbrev S2x32x1x128x8x8 : Shape := ⟨6, ![2, 32, 1, 128, 8, 8]⟩
abbrev S2x32x128x128x8x8 : Shape := ⟨6, ![2, 32, 128, 128, 8, 8]⟩
abbrev S2x32x8x128x128 : Shape := ⟨5, ![2, 32, 8, 128, 128]⟩
abbrev S2x32x128x128x8 : Shape := ⟨5, ![2, 32, 128, 128, 8]⟩
abbrev S2x32x128x128x8x1 : Shape := ⟨6, ![2, 32, 128, 128, 8, 1]⟩
abbrev S2x32x1x8x8 : Shape := ⟨5, ![2, 32, 1, 8, 8]⟩
abbrev S2x32x128x8x8x1 : Shape := ⟨6, ![2, 32, 128, 8, 8, 1]⟩
abbrev S2x32x8x8 : Shape := ⟨4, ![2, 32, 8, 8]⟩
abbrev S2x8x8x64x128 : Shape := ⟨5, ![2, 8, 8, 64, 128]⟩
abbrev S2x32x8x8x1x1 : Shape := ⟨6, ![2, 32, 8, 8, 1, 1]⟩
abbrev S32x2x8x8x1x1 : Shape := ⟨6, ![32, 2, 8, 8, 1, 1]⟩
abbrev S32x2x8x8x64x128 : Shape := ⟨6, ![32, 2, 8, 8, 64, 128]⟩
abbrev S1x2x8x8x64x128 : Shape := ⟨6, ![1, 2, 8, 8, 64, 128]⟩
abbrev S1x2x8x8x1x1 : Shape := ⟨6, ![1, 2, 8, 8, 1, 1]⟩
abbrev S2x8x8x1x1 : Shape := ⟨5, ![2, 8, 8, 1, 1]⟩
abbrev S2x32x8x8x128x128 : Shape := ⟨6, ![2, 32, 8, 8, 128, 128]⟩
abbrev S2x4096x1024 : Shape := ⟨3, ![2, 4096, 1024]⟩
abbrev S2x8x4096x8 : Shape := ⟨4, ![2, 8, 4096, 8]⟩

abbrev nBuf : Space → Nat
  | .hbm => 207
  | .vmem => 0
  | .smem => 0
  | _ => 0

abbrev hbmTy0_0 (i : Nat) : BufTy := match i % 128 with
  | 0 => ⟨S4096x6144, .f32⟩
  | 1 => ⟨S4096x128, .f32⟩
  | 2 => ⟨S2x8x8, .f32⟩
  | 3 => ⟨S2x32x8x128x512, .f32⟩
  | 4 => ⟨S2x4096x4096, .f32⟩
  | 5 => ⟨S4096x4096, .f32⟩
  | 6 => ⟨S4096x4096, .f32⟩
  | 7 => ⟨S1x4096x8x8x64, .f32⟩
  | 8 => ⟨S1x4096x8x8x64, .f32⟩
  | 9 => ⟨S2x4096x8x8x64, .f32⟩
  | 10 => ⟨S4096x1024, .f32⟩
  | 11 => ⟨S1x4096x8x128, .f32⟩
  | 12 => ⟨S1x4096x8x128, .f32⟩
  | 13 => ⟨S2x4096x8x128, .f32⟩
  | 14 => ⟨S4096x1024, .f32⟩
  | 15 => ⟨S1x4096x8x128, .f32⟩
  | 16 => ⟨S1x4096x8x128, .f32⟩
  | 17 => ⟨S2x4096x8x128, .f32⟩
  | 18 => ⟨S1x4096x2x8x8, .f32⟩
  | 19 => ⟨S1x4096x1x8x8, .f32⟩
  | 20 => ⟨S1x4096x8x8, .f32⟩
  | 21 => ⟨S1x4096x1x8x8, .f32⟩
  | 22 => ⟨S1x4096x8x8, .f32⟩
  | 23 => ⟨S1x4096x8x8, .f32⟩
  | 24 => ⟨S2x4096x8x8, .f32⟩
  | 25 => ⟨S2x1x8x8, .f32⟩
  | 26 => ⟨S2x4096x8x8, .f32⟩
  | 27 => ⟨S2x4096x8x8, .f32⟩
  | 28 => ⟨S1x32x8x128x512, .f32⟩
  | 29 => ⟨S1x32x8x128x512, .f32⟩
  | 30 => ⟨S1x32x8x128x512, .f32⟩
  | 31 => ⟨S2x32x8x128x512, .f32⟩
  | 32 => ⟨S2x32x8x128x8x64, .f32⟩
  | 33 => ⟨S2x32x8x8x64x128, .f32⟩
  | 34 => ⟨S1x4096x8x8x64, .f32⟩
  | 35 => ⟨S1x4096x8x8x64, .f32⟩
  | 36 => ⟨S2x4096x8x8x64, .f32⟩
  | 37 => ⟨S2x4096x8x8x1, .f32⟩
  | 38 => ⟨S2x4096x8x8x64, .f32⟩
  | 39 => ⟨S2x4096x8x8x64, .f32⟩
  | 40 => ⟨S2x32x128x8x8x64, .f32⟩
  | 41 => ⟨S2x32x128x8x8, .f32⟩
  | 42 => ⟨S_, .f32⟩
  | 43 => ⟨S_, .f32⟩
  | 44 => ⟨S2x32x128x8x8, .f32⟩
  | 45 => ⟨S2x32x128x8x128, .f32⟩
  | 46 => ⟨S2x32x128x8x128, .f32⟩
  | 47 => ⟨S_, .i1⟩
  | 48 => ⟨S128x128, .i1⟩
  | 49 => ⟨S128x128, .i32⟩
  | 50 => ⟨S_, .i32⟩
  | 51 => ⟨S128x128, .i32⟩
  | 52 => ⟨S128x128, .i32⟩
  | 53 => ⟨S128x128, .i32⟩
  | 54 => ⟨S128x128, .i1⟩
  | 55 => ⟨S_, .i1⟩
  | 56 => ⟨S128x128, .i1⟩
  | 57 => ⟨S128x128, .i1⟩
  | 58 => ⟨S1x1x128x128x1x1, .i1⟩
  | 59 => ⟨S2x32x128x1x8x8, .f32⟩
  | 60 => ⟨S2x32x1x128x8x8, .f32⟩
  | 61 => ⟨S2x32x128x128x8x8, .f32⟩
  | 62 => ⟨S2x32x128x128x8x8, .f32⟩
  | 63 => ⟨S2x32x128x128x8x8, .f32⟩
  | 64 => ⟨S_, .f32⟩
  | 65 => ⟨S_, .f32⟩
  | 66 => ⟨S2x32x128x128x8x8, .i1⟩
  | 67 => ⟨S2x32x128x128x8x8, .f32⟩
  | 68 => ⟨S2x32x128x128x8x8, .f32⟩
  | 69 => ⟨S2x32x128x128x8x8, .f32⟩
  | 70 => ⟨S2x32x8x128x128, .f32⟩
  | 71 => ⟨S2x32x128x128x8, .f32⟩
  | 72 => ⟨S2x32x128x128x8x1, .f32⟩
  | 73 => ⟨S2x32x128x128x8x8, .f32⟩
  | 74 => ⟨S2x32x128x128x8x8, .f32⟩
  | 75 => ⟨S2x32x8x8x64x128, .f32⟩
  | 76 => ⟨S2x32x128x8x8x64, .f32⟩
  | 77 => ⟨S2x32x1x8x8, .f32⟩
  | 78 => ⟨S2x32x128x8x8, .f32⟩
  | 79 => ⟨S2x32x128x8x8, .f32⟩
  | 80 => ⟨S2x32x128x8x8, .f32⟩
  | 81 => ⟨S2x32x128x8x8x1, .f32⟩
  | 82 => ⟨S2x32x128x8x8x64, .f32⟩
  | 83 => ⟨S2x32x128x8x8x64, .f32⟩
  | 84 => ⟨S2x32x8x8x64x128, .f32⟩
  | 85 => ⟨S2x32x1x8x8, .f32⟩
  | 86 => ⟨S2x32x8x8, .f32⟩
  | 87 => ⟨S2x32x8x8, .f32⟩
  | 88 => ⟨S2x32x8x8x64x128, .f32⟩
  | 89 => ⟨S2x32x128x8x8x64, .f32⟩
  | 90 => ⟨S2x32x128x8x8, .f32⟩
  | 91 => ⟨S2x32x128x8x8x1, .f32⟩
  | 92 => ⟨S2x32x128x8x8x64, .f32⟩
  | 93 => ⟨S2x32x128x8x8x64, .f32⟩
  | 94 => ⟨S2x32x128x8x8x64, .f32⟩
  | 95 => ⟨S2x4096x8x8x64, .f32⟩
  | 96 => ⟨S2x32x128x8x8x64, .f32⟩
  | 97 => ⟨S2x32x128x8x8x64, .f32⟩
  | 98 => ⟨S2x32x128x8x8x64, .f32⟩
  | 99 => ⟨S2x32x8x8x64x128, .f32⟩
  | 100 => ⟨S2x32x8x128x128, .f32⟩
  | 101 => ⟨S2x32x128x8x128, .f32⟩
  | 102 => ⟨S2x32x8x8x64x128, .f32⟩
  | 103 => ⟨S_, .f32⟩
  | 104 => ⟨S2x8x8x64x128, .f32⟩
  | 105 => ⟨S2x32x8x8x1x1, .f32⟩
  | 106 => ⟨S32x2x8x8x1x1, .f32⟩
  | 107 => ⟨S32x2x8x8x64x128, .f32⟩
  | 108 => ⟨S_, .f32⟩
  | 109 => ⟨S2x8x8x64x128, .f32⟩
  | 110 => ⟨S_, .f32⟩
  | 111 => ⟨S32x2x8x8x64x128, .f32⟩
  | 112 => ⟨S_, .i32⟩
  | 113 => ⟨S32x2x8x8x64x128, .f32⟩
  | 114 => ⟨S32x2x8x8x1x1, .f32⟩
  | 115 => ⟨S_, .i32⟩
  | 116 => ⟨S2x8x8x64x128, .f32⟩
  | 117 => ⟨S32x2x8x8x64x128, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S4096x6144, .f32⟩

abbrev hbmTy0_1 (i : Nat) : BufTy := match i % 128 with
  | 0 => ⟨S_, .i32⟩
  | 1 => ⟨S1x2x8x8x64x128, .f32⟩
  | 2 => ⟨S2x8x8x64x128, .f32⟩
  | 3 => ⟨S_, .i32⟩
  | 4 => ⟨S_, .i32⟩
  | 5 => ⟨S_, .i32⟩
  | 6 => ⟨S_, .i32⟩
  | 7 => ⟨S_, .i32⟩
  | 8 => ⟨S1x2x8x8x1x1, .f32⟩
  | 9 => ⟨S2x8x8x1x1, .f32⟩
  | 10 => ⟨S2x8x8x64x128, .f32⟩
  | 11 => ⟨S2x8x8x64x128, .f32⟩
  | 12 => ⟨S2x8x8x64x128, .f32⟩
  | 13 => ⟨S1x2x8x8x64x128, .f32⟩
  | 14 => ⟨S_, .i32⟩
  | 15 => ⟨S_, .i32⟩
  | 16 => ⟨S_, .i32⟩
  | 17 => ⟨S_, .i32⟩
  | 18 => ⟨S_, .i32⟩
  | 19 => ⟨S32x2x8x8x64x128, .f32⟩
  | 20 => ⟨S_, .i32⟩
  | 21 => ⟨S_, .i32⟩
  | 22 => ⟨S2x32x8x8x64x128, .f32⟩
  | 23 => ⟨S2x32x8x128x128, .f32⟩
  | 24 => ⟨S2x32x128x8x128, .f32⟩
  | 25 => ⟨S2x32x8x8x64x128, .f32⟩
  | 26 => ⟨S2x32x128x8x8x64, .f32⟩
  | 27 => ⟨S2x32x128x8x8x64, .f32⟩
  | 28 => ⟨S2x32x128x8x8x64, .f32⟩
  | 29 => ⟨S2x32x8x8x64x128, .f32⟩
  | 30 => ⟨S2x32x8x8x128x128, .f32⟩
  | 31 => ⟨S2x32x128x128x8x8, .f32⟩
  | 32 => ⟨S2x32x8x8x64x128, .f32⟩
  | 33 => ⟨S2x32x128x8x8x64, .f32⟩
  | 34 => ⟨S2x32x128x8x8x64, .f32⟩
  | 35 => ⟨S2x32x128x128x8x8, .f32⟩
  | 36 => ⟨S_, .f32⟩
  | 37 => ⟨S2x32x128x128x8, .f32⟩
  | 38 => ⟨S2x32x128x128x8x1, .f32⟩
  | 39 => ⟨S_, .f32⟩
  | 40 => ⟨S2x32x128x128x8, .f32⟩
  | 41 => ⟨S2x32x8x128x128, .f32⟩
  | 42 => ⟨S2x32x8x128x128, .f32⟩
  | 43 => ⟨S2x32x128x8x128, .f32⟩
  | 44 => ⟨S2x32x128x8x128, .f32⟩
  | 45 => ⟨S2x32x8x128x128, .f32⟩
  | 46 => ⟨S2x32x128x8x128, .f32⟩
  | 47 => ⟨S2x32x128x8x128, .f32⟩
  | 48 => ⟨S2x4096x8x128, .f32⟩
  | 49 => ⟨S2x4096x8x128, .f32⟩
  | 50 => ⟨S2x4096x8x8x64, .f32⟩
  | 51 => ⟨S2x4096x8x8x64, .f32⟩
  | 52 => ⟨S_, .f32⟩
  | 53 => ⟨S2x4096x8x8, .f32⟩
  | 54 => ⟨S2x4096x8x8x1, .f32⟩
  | 55 => ⟨S2x4096x8x8x64, .f32⟩
  | 56 => ⟨S2x4096x8x8x64, .f32⟩
  | 57 => ⟨S_, .f32⟩
  | 58 => ⟨S2x4096x8x8, .f32⟩
  | 59 => ⟨S1x4096x8x8x64, .f32⟩
  | 60 => ⟨S1x4096x8x8x64, .f32⟩
  | 61 => ⟨S1x4096x8x8x64, .f32⟩
  | 62 => ⟨S2x4096x8x8x64, .f32⟩
  | 63 => ⟨S2x4096x4096, .f32⟩
  | 64 => ⟨S1x4096x8x128, .f32⟩
  | 65 => ⟨S1x4096x8x128, .f32⟩
  | 66 => ⟨S1x4096x8x128, .f32⟩
  | 67 => ⟨S2x4096x8x128, .f32⟩
  | 68 => ⟨S2x4096x1024, .f32⟩
  | 69 => ⟨S1x4096x8x128, .f32⟩
  | 70 => ⟨S1x4096x8x128, .f32⟩
  | 71 => ⟨S1x4096x8x128, .f32⟩
  | 72 => ⟨S2x4096x8x128, .f32⟩
  | 73 => ⟨S2x4096x1024, .f32⟩
  | 74 => ⟨S1x4096x8x8, .f32⟩
  | 75 => ⟨S1x4096x8x8, .f32⟩
  | 76 => ⟨S1x4096x8x8, .f32⟩
  | 77 => ⟨S2x4096x8x8, .f32⟩
  | 78 => ⟨S2x8x4096x8, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call6_call0_cst : Ref sig .tc := ⟨.hbm, 42, rfl⟩
abbrev main_call6_call0_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c : Ref sig .tc := ⟨.hbm, 47, rfl⟩
abbrev main_v39 : Ref sig .tc := ⟨.hbm, 48, rfl⟩
abbrev main_call7_v0 : Ref sig .tc := ⟨.hbm, 49, rfl⟩
abbrev main_call7_c : Ref sig .tc := ⟨.hbm, 50, rfl⟩
abbrev main_call7_v1 : Ref sig .tc := ⟨.hbm, 51, rfl⟩
abbrev main_call7_v2 : Ref sig .tc := ⟨.hbm, 52, rfl⟩
abbrev main_call7_v3 : Ref sig .tc := ⟨.hbm, 53, rfl⟩
abbrev main_call7_v4 : Ref sig .tc := ⟨.hbm, 54, rfl⟩
abbrev main_call7_c_0 : Ref sig .tc := ⟨.hbm, 55, rfl⟩
abbrev main_call7_v5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst : Ref sig .tc := ⟨.hbm, 64, rfl⟩
abbrev main_call8_v0 : Ref sig .tc := ⟨.hbm, 65, rfl⟩
abbrev main_call8_v1 : Ref sig .tc := ⟨.hbm, 66, rfl⟩
abbrev main_call8_v2 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_0 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_1 : Ref sig .tc := ⟨.hbm, 108, rfl⟩
abbrev main_v86 : Ref sig .tc := ⟨.hbm, 109, rfl⟩
abbrev main_cst_2 : Ref sig .tc := ⟨.hbm, 110, rfl⟩
abbrev main_v87 : Ref sig .tc := ⟨.hbm, 111, rfl⟩
abbrev main_c_3 : Ref sig .tc := ⟨.hbm, 112, rfl⟩
abbrev main_v88_0 : Ref sig .tc := ⟨.hbm, 113, rfl⟩
abbrev main_v88_1 : Ref sig .tc := ⟨.hbm, 114, rfl⟩
abbrev main_v88_2 : Ref sig .tc := ⟨.hbm, 115, rfl⟩
abbrev main_v88_3 : Ref sig .tc := ⟨.hbm, 116, rfl⟩
abbrev main_v88_4 : Ref sig .tc := ⟨.hbm, 117, rfl⟩
abbrev main_while0c_c_12 : Ref sig .tc := ⟨.hbm, 118, rfl⟩
abbrev main_while0c_v142 : Ref sig .tc := ⟨.hbm, 119, rfl⟩
abbrev main_while0b_c_12 : Ref sig .tc := ⟨.hbm, 120, rfl⟩
abbrev main_while0b_v142 : Ref sig .tc := ⟨.hbm, 121, rfl⟩
abbrev main_while0b_c_13 : Ref sig .tc := ⟨.hbm, 122, rfl⟩
abbrev main_while0b_v143 : Ref sig .tc := ⟨.hbm, 123, rfl⟩
abbrev main_while0b_call9_c : Ref sig .tc := ⟨.hbm, 124, rfl⟩
abbrev main_while0b_call9_c_0 : Ref sig .tc := ⟨.hbm, 125, rfl⟩
abbrev main_while0b_call9_c_1 : Ref sig .tc := ⟨.hbm, 126, rfl⟩
abbrev main_while0b_call9_c_2 : Ref sig .tc := ⟨.hbm, 127, rfl⟩
abbrev main_while0b_call9_c_3 : Ref sig .tc := ⟨.hbm, 128, rfl⟩
abbrev main_while0b_call9_v0 : Ref sig .tc := ⟨.hbm, 129, rfl⟩
abbrev main_while0b_v144 : Ref sig .tc := ⟨.hbm, 130, rfl⟩
abbrev main_while0b_call10_c : Ref sig .tc := ⟨.hbm, 131, rfl⟩
abbrev main_while0b_call10_c_0 : Ref sig .tc := ⟨.hbm, 132, rfl⟩
abbrev main_while0b_call10_c_1 : Ref sig .tc := ⟨.hbm, 133, rfl⟩
abbrev main_while0b_call10_c_2 : Ref sig .tc := ⟨.hbm, 134, rfl⟩
abbrev main_while0b_call10_c_3 : Ref sig .tc := ⟨.hbm, 135, rfl⟩
abbrev main_while0b_call10_v0 : Ref sig .tc := ⟨.hbm, 136, rfl⟩
abbrev main_while0b_v145 : Ref sig .tc := ⟨.hbm, 137, rfl⟩
abbrev main_while0b_v146 : Ref sig .tc := ⟨.hbm, 138, rfl⟩
abbrev main_while0b_v147 : Ref sig .tc := ⟨.hbm, 139, rfl⟩
abbrev main_while0b_v148 : Ref sig .tc := ⟨.hbm, 140, rfl⟩
abbrev main_while0b_call11_v0 : Ref sig .tc := ⟨.hbm, 141, rfl⟩
abbrev main_while0b_call11_c : Ref sig .tc := ⟨.hbm, 142, rfl⟩
abbrev main_while0b_call11_c_0 : Ref sig .tc := ⟨.hbm, 143, rfl⟩
abbrev main_while0b_call11_c_1 : Ref sig .tc := ⟨.hbm, 144, rfl⟩
abbrev main_while0b_call11_c_2 : Ref sig .tc := ⟨.hbm, 145, rfl⟩
abbrev main_while0b_call11_c_3 : Ref sig .tc := ⟨.hbm, 146, rfl⟩
abbrev main_while0b_v149 : Ref sig .tc := ⟨.hbm, 147, rfl⟩
abbrev main_while0b_c_14 : Ref sig .tc := ⟨.hbm, 148, rfl⟩
abbrev main_while0b_v150 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_4 : Ref sig .tc := ⟨.hbm, 164, rfl⟩
abbrev main_v103 : Ref sig .tc := ⟨.hbm, 165, rfl⟩
abbrev main_v104 : Ref sig .tc := ⟨.hbm, 166, rfl⟩
abbrev main_cst_5 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_6 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_7 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩

abbrev nD : Nat := 1
abbrev τ : Topo := Topo.v7x

variable {F : FTy → Type} [FloatOps F]

abbrev main_while0_count : Scf.Loop 32 := ⟨0#32, 32#32, 1#32⟩
-- ==== MlpUp.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x8192, .f32⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpDown.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpDownDx.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownDxRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpDownDw.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S4096x8192 : Shape := ⟨2, ![4096, 8192]⟩
abbrev S4096x2048 : Shape := ⟨2, ![4096, 2048]⟩
abbrev S2048x8192 : Shape := ⟨2, ![2048, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S2048x8192, .f32⟩
  | .hbm, ⟨5, _⟩ => ⟨S8192x2048, .f32⟩
  | .hbm, ⟨6, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MlpUpDx.lean ====
abbrev S4096x8192 : Shape := ⟨2, ![4096, 8192]⟩
abbrev S2048x8192 : Shape := ⟨2, ![2048, 8192]⟩
abbrev S4096x2048 : Shape := ⟨2, ![4096, 2048]⟩
abbrev S2048x8x1024 : Shape := ⟨3, ![2048, 8, 1024]⟩
abbrev S8x2048x1024 : Shape := ⟨3, ![8, 2048, 1024]⟩
abbrev S1024x1024 : Shape := ⟨2, ![1024, 1024]⟩
abbrev S1x1024x1024 : Shape := ⟨3, ![1, 1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S2048x8x1024, .bf16⟩
  | .hbm, ⟨4, _⟩ => ⟨S8x2048x1024, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_7 : BitVec 32 := 7#32
  let v12 : BitVec 1 := Scalar.cmpi .eq arg2 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpDxRefIdeal.lean ====
abbrev S4096x8192 : Shape := ⟨2, ![4096, 8192]⟩
abbrev S2048x8192 : Shape := ⟨2, ![2048, 8192]⟩
abbrev S4096x2048 : Shape := ⟨2, ![4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpUpDw.lean ====
abbrev S4096x2048 : Shape := ⟨2, ![4096, 2048]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwRefIdeal.lean ====
abbrev S4096x2048 : Shape := ⟨2, ![4096, 2048]⟩
abbrev S4096x8192 : Shape := ⟨2, ![4096, 8192]⟩
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | .hbm, ⟨8, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Frames.lean ====
/- The runs: the kernel's at both instances, and the reference program's, every argument kept. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

set_option maxRecDepth 16384

noncomputable section

namespace Cert.Proof

open Idealize.ShloMosaic Idealize.SL.Sem

/-- The kernel runs on the machine's numbers. -/
theorem kernel_frame [Cert.Kernel.Facts] : Cert.quiescent_Kernel := fun m g _ => Cert.Kernel.Gen.frame m g

/-- The kernel runs on the ideal numbers. -/
theorem kernelIdeal_frame [Cert.KernelIdeal.Facts] : Cert.quiescent_KernelIdeal := fun m g _ => Cert.KernelIdeal.Gen.frame m g

section Reference

open Cert.ReferenceIdeal Cert.ReferenceIdeal.Gen Cert.ReferenceIdeal.Value StableHlo

variable {F : FTy → Type} [FloatOps F]

/-- The reference program declares no semaphore. -/
theorem no_sem (s : GSem nD τ sig → Int) : s = fun _ => 0 := by
  funext ⟨_, l⟩
  cases l with
  | reg i => exact i.elim0
  | dma i => exact i.elim0

/-- An argument is not written before the loop, -/
theorem pre_keeps (b : Ref sig .tc) (hb : b ∈ [main_arg0, main_arg1, main_arg2, main_arg3, main_arg4, main_arg5])
    (V : Valuation τ sig (Elt F)) : afterL preI V (Proc.devRef .tc b) = V (Proc.devRef .tc b) := by
  simp only [afterL_cons, afterL_nil]
  fin_cases hb <;> after_reads_simp

/-- nor by a trip of it, -/
theorem trip_keeps (b : Ref sig .tc) (hb : b ∈ [main_arg0, main_arg1, main_arg2, main_arg3, main_arg4, main_arg5])
    (V : Valuation τ sig (Elt F)) : afterL bodyI (after condOps V) (Proc.devRef .tc b) = V (Proc.devRef .tc b) := by
  simp only [afterL_cons, afterL_nil]
  fin_cases hb <;> after_reads_simp

/-- nor after it. -/
theorem post_keeps (b : Ref sig .tc) (hb : b ∈ [main_arg0, main_arg1, main_arg2, main_arg3, main_arg4, main_arg5])
    (V : Valuation τ sig (Elt F)) : afterL postI (after condOps V) (Proc.devRef .tc b) = V (Proc.devRef .tc b) := by
  simp only [afterL_cons, afterL_nil]
  fin_cases hb <;> after_reads_simp

variable (m : (ℓ : Loc nD τ sig) → Buf (Elt F) ℓ) (c : Dev nD)

/-- An argument keeps its contents through the trips. -/
theorem atK_keeps (b : Ref sig .tc) (hb : b ∈ [main_arg0, main_arg1, main_arg2, main_arg3, main_arg4, main_arg5]) :
    ∀ k, atK m k c (Proc.devRef .tc b) = m ((c.tc : Thread nD τ).loc b)
  | 0 => (pre_keeps b hb _).trans (launchContents_devRef m c b)
  | k + 1 => (trip_keeps b hb (atK m k c)).trans (atK_keeps b hb k)

/-- An argument keeps its contents through the whole program. -/
theorem final_keeps (b : Ref sig .tc) (hb : b ∈ [main_arg0, main_arg1, main_arg2, main_arg3, main_arg4, main_arg5]) :
    finalContents condOps preI bodyI postI 32 m c (Proc.devRef .tc b) = m ((c.tc : Thread nD τ).loc b) :=
  (post_keeps b hb _).trans (atK_keeps m c b hb 32)

/-- The reference program runs: every buffer ends at the fold, every counter at zero, every argument as it was. -/
theorem reference_run (ρ : Dev nD → PrngReg) : θ_run (defs (F := F)) (onTc (τ := τ) (main (F := F))) ⟨m, fun _ => 0, ρ⟩
    (fun r => ((∀ (c : Dev nD) (b : Ref sig .tc), (Proc.devRef .tc b : DevRef τ sig).isScoped = false →
        r.2.mem ((c.tc : Thread nD τ).loc b) = finalContents condOps preI bodyI postI 32 m c (Proc.devRef .tc b))
      ∧ ∀ (c : Dev nD) (b : Ref sig .tc), b ∈ [main_arg0, main_arg1, main_arg2, main_arg3, main_arg4, main_arg5] →
        r.2.mem ((c.tc : Thread nD τ).loc b) = m ((c.tc : Thread nD τ).loc b)) ∧ r.2.sem = fun _ => 0) := by
  refine (θ_run (defs (F := F)) _ _).mono (fun r h => ⟨⟨h, fun c b hb => ?_⟩, no_sem _⟩) (run_fold m ρ)
  refine (h c b ?_).trans (final_keeps m c b hb)
  fin_cases hb <;> rfl

/-- The reference program's frame. -/
theorem reference_frame : Cert.quiescent_ReferenceIdeal := fun m g _ =>
  (θ_run (defs (F := Ideal)) _ _).mono (fun r h =>
    ⟨fun c => ⟨h.1.2 c _ (by decide), h.1.2 c _ (by decide), h.1.2 c _ (by decide), h.1.2 c _ (by decide), h.1.2 c _ (by decide),
      h.1.2 c _ (by decide)⟩, h.2⟩) (reference_run m g)

end Reference

end Cert.Proof

end
-- ==== Proof.Spec.lean ====
/- The mathematics of the chunked scan's backward pass, with no program in sight.

   A `Chunk` holds what one chunk of one head group in one scan direction reads: inputs, the gradient of the
   output, the two projections, the step sizes, their cumulative sums and the saved state before the chunk.
   The gradients of a chunk are stated for any order `ord` of its 128 positions and any position `last` at which
   the cumulative sums end, so that the same formulas serve a chunk read forwards and a chunk whose rows lie in
   memory in the opposite order; `Chunk.*_perm` say that a renumbering of the positions changes nothing. -/
module

public import Idealize.ShloMosaic.PureOps.Ideal

@[expose] public section

noncomputable section

namespace Ssd

open Idealize.ShloMosaic

/-- The state of one head group: per head, per channel, per state dimension. -/
abbrev State := Fin 8 → Fin 64 → Fin 128 → EReal

/-- What one chunk of one head group reads. -/
@[ext] structure Chunk where
  /-- the inputs, by position, head, channel -/
  X : Fin 128 → Fin 8 → Fin 64 → EReal
  /-- the gradient of the output, by position, head, channel -/
  Y : Fin 128 → Fin 8 → Fin 64 → EReal
  /-- the input projection, by position and state dimension -/
  B : Fin 128 → Fin 128 → EReal
  /-- the output projection, by position and state dimension -/
  C : Fin 128 → Fin 128 → EReal
  /-- the step sizes, by position and head -/
  D : Fin 128 → Fin 8 → EReal
  /-- the cumulative sums of the decays within the chunk, by position and head -/
  S : Fin 128 → Fin 8 → EReal
  /-- the state before the chunk -/
  P : State

namespace Chunk

variable (ord : Fin 128 → Fin 128 → Bool) (last : Fin 128) (K : Chunk) (H : State)

/-- The input scaled by its step. -/
def xdt (l : Fin 128) (r : Fin 8) (p : Fin 64) : EReal := K.X l r p * K.D l r

/-- The decay from position `s` to position `l`: nothing passes against the order. -/
def decay (l s : Fin 128) (r : Fin 8) : EReal := Ideal.exp (if ord l s then K.S l r - K.S s r else ⊥)

/-- The decay from position `l` to the end of the chunk. -/
def tail (l : Fin 128) (r : Fin 8) : EReal := Ideal.exp (K.S last r - K.S l r)

/-- The decay over the whole chunk. -/
def total (r : Fin 8) : EReal := Ideal.exp (K.S last r)

/-- The gradient of what the carried state contributes to the output. -/
def dOut (l : Fin 128) (r : Fin 8) (p : Fin 64) : EReal := Ideal.exp (K.S l r) * K.Y l r p

/-- The attention score of position `l` to position `s`. -/
def score (l s : Fin 128) : EReal := ∑ n, K.C l n * K.B s n

/-- What the gradient `H` of the state after the chunk asks of position `l`. -/
def pull (l : Fin 128) (r : Fin 8) (p : Fin 64) : EReal := ∑ n, K.B l n * H r p n

/-- The gradient of the scores. -/
def dScore (l s : Fin 128) : EReal := ∑ r, (∑ p, K.Y l r p * K.xdt s r p) * K.decay ord l s r

/-- The part of the scaled input's gradient that stays within the chunk. -/
def within (s : Fin 128) (r : Fin 8) (p : Fin 64) : EReal := ∑ l, (K.score l s * K.decay ord l s r) * K.Y l r p

/-- The gradient of the scaled input. -/
def dXdt (l : Fin 128) (r : Fin 8) (p : Fin 64) : EReal := K.within ord l r p + K.tail last l r * K.pull H l r p

/-- The gradient of the input. -/
def dX (l : Fin 128) (r : Fin 8) (p : Fin 64) : EReal := K.dXdt ord last H l r p * K.D l r

/-- The gradient of the step sizes through the scaled input. -/
def dStep (l : Fin 128) (r : Fin 8) : EReal := ∑ p, K.dXdt ord last H l r p * K.X l r p

/-- The gradient of the output projection. -/
def dC (l n : Fin 128) : EReal := (∑ r, ∑ p, K.dOut l r p * K.P r p n) + ∑ s, K.dScore ord l s * K.B s n

/-- The gradient of the input projection. -/
def dB (s n : Fin 128) : EReal :=
  (∑ r, ∑ p, (K.tail last s r * K.xdt s r p) * H r p n) + ∑ l, K.dScore ord l s * K.C l n

/-- The gradient of the state before the chunk, from the gradient `H` of the state after it. -/
def next : State := fun r p n => K.total last r * H r p n + ∑ l, K.C l n * K.dOut l r p

/-- The chunk with its positions renumbered by `σ`. -/
def perm (σ : Fin 128 ≃ Fin 128) : Chunk where
  X l := K.X (σ l)
  Y l := K.Y (σ l)
  B l := K.B (σ l)
  C l := K.C (σ l)
  D l := K.D (σ l)
  S l := K.S (σ l)
  P := K.P

variable (σ : Fin 128 ≃ Fin 128)

theorem dScore_perm (l s : Fin 128) :
    (K.perm σ).dScore (fun a b => ord (σ a) (σ b)) l s = K.dScore ord (σ l) (σ s) := rfl

theorem within_perm (l : Fin 128) (r : Fin 8) (p : Fin 64) :
    (K.perm σ).within (fun a b => ord (σ a) (σ b)) l r p = K.within ord (σ l) r p :=
  Equiv.sum_comp σ fun a => (K.score a (σ l) * K.decay ord a (σ l) r) * K.Y a r p

theorem dXdt_perm (l : Fin 128) (r : Fin 8) (p : Fin 64) :
    (K.perm σ).dXdt (fun a b => ord (σ a) (σ b)) last H l r p = K.dXdt ord (σ last) H (σ l) r p := by
  unfold dXdt
  rw [within_perm]
  rfl

theorem dX_perm (l : Fin 128) (r : Fin 8) (p : Fin 64) :
    (K.perm σ).dX (fun a b => ord (σ a) (σ b)) last H l r p = K.dX ord (σ last) H (σ l) r p := by
  unfold dX
  rw [dXdt_perm]
  rfl

theorem dStep_perm (l : Fin 128) (r : Fin 8) :
    (K.perm σ).dStep (fun a b => ord (σ a) (σ b)) last H l r = K.dStep ord (σ last) H (σ l) r := by
  unfold dStep
  simp only [dXdt_perm]
  rfl

theorem dC_perm (l n : Fin 128) :
    (K.perm σ).dC (fun a b => ord (σ a) (σ b)) l n = K.dC ord (σ l) n := by
  unfold dC
  simp only [dScore_perm]
  exact congrArg₂ (· + ·) rfl (Equiv.sum_comp σ fun a => K.dScore ord (σ l) a * K.B a n)

theorem dB_perm (l n : Fin 128) :
    (K.perm σ).dB (fun a b => ord (σ a) (σ b)) last H l n = K.dB ord (σ last) H (σ l) n := by
  unfold dB
  simp only [dScore_perm]
  exact congrArg₂ (· + ·) rfl (Equiv.sum_comp σ fun a => K.dScore ord a (σ l) * K.C a n)

theorem next_perm : (K.perm σ).next last H = K.next (σ last) H := by
  funext r p n
  exact congrArg₂ (· + ·) rfl (Equiv.sum_comp σ fun a => K.C a n * K.dOut a r p)

end Chunk

/-- The order of a chunk read forwards: `s` comes no later than `l`. -/
def fwd (l s : Fin 128) : Bool := decide (s ≤ l)

/-- The order of a chunk whose rows lie in memory from the last position to the first. -/
def bwd (l s : Fin 128) : Bool := decide (l ≤ s)

theorem bwd_eq : bwd = fun l s => fwd (Fin.revPerm l) (Fin.revPerm s) := by
  funext l s
  simp [bwd, fwd, Fin.revPerm, Fin.rev_le_rev]

/-- Chunk number `31 - k`, the one that the backward pass reads in its step `k`. -/
def chunkAt (k : ℕ) : Fin 32 := ⟨31 - k % 32, by omega⟩

/-- The gradient of the state after the chunk that step `k` reads: nothing reaches the last chunk's. -/
def carry (K : Fin 32 → Chunk) : ℕ → State
  | 0 => fun _ _ _ => 0
  | k + 1 => (K (chunkAt k)).next 127 (carry K k)

/-- The gradient of the state after chunk `c`. -/
def after (K : Fin 32 → Chunk) (c : Fin 32) : State := carry K (31 - c.val)

end Ssd

end
-- ==== Proof.Block.lean ====
/- What the kernel computes at one grid point for one of the two head groups it holds, as functions of what it
   loads.  The program writes the computation out twice, once per head group, in slightly different pieces; both
   are the functions below, and each function is read at an index as the formula of `Ssd.Chunk` it is. -/
module

public import proofs.«01_k».proof.Proof.Gen.KernelIdeal.Skeleton
public import proofs.«01_k».proof.Proof.Spec
public import Idealize.ShloMosaic.Lib.Pointwise
public import Idealize.ShloMosaic.Lib.WordCmp

@[expose] public section

set_option maxRecDepth 16384

noncomputable section

namespace Cert.KernelIdeal.Block

open Idealize.ShloMosaic Idealize.ShloMosaic.Tactic Idealize.ShloMosaic.WordCmp Cert.KernelIdeal Cert.KernelIdeal.Gen

/-- Column `p` of head `r` among the 512 columns of a head group. -/
def cl (r : Fin 8) (p : Fin 64) : Fin 512 := ⟨64 * r.val + p.val, by omega⟩

theorem exists_cl (k : Fin 512) : ∃ r p, k = cl r p :=
  ⟨⟨k.val / 64, by omega⟩, ⟨k.val % 64, by omega⟩, Fin.ext (by show k.val = 64 * (k.val / 64) + k.val % 64; omega)⟩

theorem cl_inj {r r' : Fin 8} {p p' : Fin 64} : cl r p = cl r' p' ↔ r = r' ∧ p = p' := by
  constructor
  · intro h
    have h' : 64 * r.val + p.val = 64 * r'.val + p'.val := congrArg Fin.val h
    exact ⟨Fin.ext (by omega), Fin.ext (by omega)⟩
  · rintro ⟨rfl, rfl⟩
    rfl

/-- The heads and their columns number the columns of the group. -/
def clEquiv : Fin 8 × Fin 64 ≃ Fin 512 :=
  Equiv.ofBijective (fun x => cl x.1 x.2) ⟨fun a b h => by
    obtain ⟨h1, h2⟩ := cl_inj.mp h
    exact Prod.ext h1 h2, fun k => by
    obtain ⟨r, p, rfl⟩ := exists_cl k
    exact ⟨(r, p), rfl⟩⟩

/-- A sum over the columns of a head group, head by head. -/
theorem sum_cl (f : Fin 512 → EReal) : ∑ k, f k = ∑ r, ∑ p, f (cl r p) := by
  rw [← Equiv.sum_comp clEquiv f, Fintype.sum_prod_type]
  rfl

/-- What a point loads for one head group. -/
structure Loads where
  /-- the scan direction -/
  d : Fin 2
  /-- the input projection -/
  B : Vec Ideal S128x128 .f32
  /-- the output projection -/
  C : Vec Ideal S128x128 .f32
  /-- the step sizes -/
  dt : Vec Ideal S1x1x128x8 .f32
  /-- the cumulative sums of the decays -/
  cs : Vec Ideal S1x1x128x8 .f32
  /-- the same sums, loaded head by head as columns -/
  col : Fin 8 → Vec Ideal S128x1 .f32
  /-- the same sums, loaded head by head as rows -/
  row : Fin 8 → Vec Ideal S1x128 .f32
  /-- the state before the chunk -/
  P : Vec Ideal S1x1x1x128x512 .f32
  /-- the inputs -/
  x : Vec Ideal S128x512 .f32
  /-- the gradient of the output -/
  dy : Vec Ideal S128x512 .f32
  /-- the gradient of the state after the chunk -/
  H : Vec Ideal S1x128x512 .f32

/-- The columns and rows are those of the cumulative sums. -/
structure Loads.Ok (L : Loads) : Prop where
  col : ∀ j l, L.col j (ix2 l 0) = L.cs (ix4 0 0 l j)
  row : ∀ j l, L.row j (ix2 0 l) = L.cs (ix4 0 0 l j)

/-- The chunk those loads are, its positions in the order of the rows. -/
def Loads.chunk (L : Loads) : Ssd.Chunk where
  X l r p := L.x (ix2 l (cl r p))
  Y l r p := L.dy (ix2 l (cl r p))
  B l n := L.B (ix2 l n)
  C l n := L.C (ix2 l n)
  D l r := L.dt (ix4 0 0 l r)
  S l r := L.cs (ix4 0 0 l r)
  P r p n := L.P (ix5 0 0 0 n (cl r p))

/-- The gradient of the state after the chunk. -/
def Loads.state (L : Loads) : Ssd.State := fun r p n => L.H (ix3 0 n (cl r p))

/-- The direction as the program holds it. -/
def Loads.dir (L : Loads) : BitVec 32 := BitVec.ofNat 32 L.d.val

/-- The order of the rows: forwards in the first direction, backwards in the second. -/
def ord (d : Fin 2) : Fin 128 → Fin 128 → Bool := if d = 0 then Ssd.fwd else Ssd.bwd

/-- The row at which the cumulative sums end. -/
def last (d : Fin 2) : Fin 128 := if d = 0 then 127 else 0

variable (L : Loads)

/-- A comparison's bit as a number. -/
theorem sitofp_bit (p : Prop) [Decidable p] (b : BitVec 32) (h : b = if p then 1#32 else 0#32) :
    FloatOps.sitofp (F := Ideal) FTy.f32 b = if p then (1 : EReal) else 0 := by
  subst h
  show (((if p then 1#32 else 0#32 : BitVec 32).toInt : ℝ) : EReal) = _
  split <;> simp

/-- The matrix that repeats a head's value over its columns. -/
theorem expand_at (k r : Fin 8) (p : Fin 64) : (k0_pay81 (F := Ideal)) (ix2 k (cl r p)) = if k = r then 1 else 0 := by
  pointwise [k0_pay81]
  refine sitofp_bit _ _ ?_
  revert k r p
  decide +kernel

/-- The matrix that sums a head's columns. -/
theorem select_at (k r : Fin 8) (p : Fin 64) : (k0_pay85 (F := Ideal)) (ix2 (cl r p) k) = if k = r then 1 else 0 := by
  pointwise [k0_pay85]
  refine sitofp_bit _ _ ?_
  revert k r p
  decide +kernel

/-- One direction's comparison of two rows, out of both. -/
theorem choose_at : ∀ (d : Fin 2) (a b : Bool),
    IntOp.ori (IntOp.andi (BitVec.ofBool a) (Scalar.cmpi .eq (BitVec.ofNat 32 d.val) 0#32))
      (IntOp.andi (BitVec.ofBool b) (Scalar.cmpi .eq (BitVec.ofNat 32 d.val) 1#32))
      = if (if d = 0 then a else b) then 1#1 else 0#1 := by decide

/-- The pairs of rows that a direction lets through. -/
theorem mask_at (d : Fin 2) (l s : Fin 128) :
    k0_pay80 (BitVec.ofNat 32 d.val) (ix2 l s) = if ord d l s then 1#1 else 0#1 := by
  pointwise [k0_pay80]
  rw [cmpi_sge_ofNat (by omega) (by omega), cmpi_sle_ofNat (by omega) (by omega), choose_at]
  unfold ord
  by_cases h : d = 0 <;> simp only [h, if_true, if_false] <;> rfl

/-- The word for the least number. -/
theorem neg_inf : Ideal.ofBits FTy.f32 0xFF800000#32 = (⊥ : EReal) := by
  show Ideal.ieee 8 23 0xFF800000#32 = _
  unfold Ideal.ieee
  rw [if_pos (by decide), if_pos (by decide), if_pos (by decide)]

/-- The cumulative sums over the columns of the group. -/
def csx : FVec Ideal S128x512 .f32 := k0_pay82 k0_pay81 L.cs
/-- The step sizes over the columns of the group. -/
def dtx : FVec Ideal S128x512 .f32 := k0_pay83 k0_pay81 L.dt
/-- The sums at the end of the chunk. -/
def tot : FVec Ideal S1x512 .f32 := k0_pay84 L.dir k0_pay81 L.cs
/-- The scaled input. -/
def xdt : FVec Ideal S128x512 .bf16 := k0_pay87 (dtx L) L.x
/-- The gradient of the output, rounded. -/
def dyb : FVec Ideal S128x512 .bf16 := k0_pay88 L.dy
/-- The input projection, rounded. -/
def Bb : FVec Ideal S128x128 .bf16 := k0_pay77 L.B
/-- The output projection, rounded. -/
def Cb : FVec Ideal S128x128 .bf16 := k0_pay78 L.C
/-- The scores. -/
def score : FVec Ideal S128x128 .f32 := k0_pay79 L.B L.C
/-- The decays of head `j`. -/
def decay (j : Fin 8) : FVec Ideal S128x128 .f32 := k0_pay104 (k0_pay80 L.dir) (k0_pay102 (L.col j)) (k0_pay103 (L.row j))
/-- What the state after the chunk asks of each position. -/
def pull : FVec Ideal S128x512 .f32 := k0_pay96 (Bb L) L.H
/-- The decays to the end of the chunk. -/
def tail : FVec Ideal S128x512 .f32 := k0_pay97 (csx L) (tot L)

/-- The columns of head `j`. -/
def head (v : FVec Ideal S128x512 .bf16) : Fin 8 → FVec Ideal S128x64 .bf16
  | 0 => extractStridedSlice S128x64 ![0, 0] v slices_S128x512_o0_0_S128x64
  | 1 => extractStridedSlice S128x64 ![0, 64] v slices_S128x512_o0_64_S128x64
  | 2 => extractStridedSlice S128x64 ![0, 128] v slices_S128x512_o0_128_S128x64
  | 3 => extractStridedSlice S128x64 ![0, 192] v slices_S128x512_o0_192_S128x64
  | 4 => extractStridedSlice S128x64 ![0, 256] v slices_S128x512_o0_256_S128x64
  | 5 => extractStridedSlice S128x64 ![0, 320] v slices_S128x512_o0_320_S128x64
  | 6 => extractStridedSlice S128x64 ![0, 384] v slices_S128x512_o0_384_S128x64
  | 7 => extractStridedSlice S128x64 ![0, 448] v slices_S128x512_o0_448_S128x64

/-- One head's step in the sum over the heads of the scores' gradient. -/
def step (acc : FVec Ideal S128x128 .f32) (j : Fin 8) : FVec Ideal S128x128 .f32 :=
  addf acc (mulf (matmul dot_S128x64_S128x64_S128x128_1_1_0_0_n_n none (head (dyb L) j) (head (xdt L) j)
    (constant S128x128 .f32 0x00000000#32)) (decay L j))

/-- The gradient of the scores. -/
def dS : FVec Ideal S128x128 .f32 :=
  step L (step L (step L (step L (step L (step L (step L (step L k0_pay101 0) 1) 2) 3) 4) 5) 6) 7

/-- Head `j`'s part of the scaled input's gradient that stays within the chunk. -/
def diag (j : Fin 8) : FVec Ideal S128x64 .f32 :=
  shapeCast S128x64 (matmul dot_S128x128_S128x64_S128x64_0_0_1_1_n_n none
    (truncf .bf16 (mulf (score L) (decay L j)) bitsLt_bf16_f32) (head (dyb L) j) (constant S128x64 .f32 0x00000000#32))
    shapeCasts_S128x64_S128x64

/-- The gradient of the scaled input, `w` holding the parts of `diag`. -/
def dxdt (w : Vec Ideal S1x128x512 .f32) : FVec Ideal S128x512 .f32 := k0_pay133 (pull L) (tail L) w
/-- The gradient of the input, as stored. -/
def outX (w : Vec Ideal S1x128x512 .f32) : FVec Ideal S1x128x512 .f32 := k0_pay138 (dtx L) (dxdt L w)
/-- The gradient of the step sizes, as stored. -/
def outStep (w : Vec Ideal S1x128x512 .f32) : FVec Ideal S1x1x128x8 .f32 := k0_pay137 k0_pay85 L.x (dxdt L w)
/-- The gradient of the state before the chunk, as stored. -/
def outH : FVec Ideal S1x128x512 .f32 :=
  k0_pay139 (k0_pay90 L.H) (k0_pay92 (tot L)) (k0_pay95 (Cb L) (csx L) L.dy)
/-- The gradient of the output projection, as stored. -/
def outC : FVec Ideal S1x128x128 .f32 := k0_pay1 (k0_pay141 (Bb L) (k0_pay94 (csx L) L.dy L.P) (dS L))
/-- The gradient of the input projection, as stored. -/
def outB : FVec Ideal S1x128x128 .f32 :=
  k0_pay2 (Cb L) (k0_pay99 (csx L) (dtx L) (tot L) L.x L.H) (k0_pay140 (dS L))

theorem csx_at (l : Fin 128) (r : Fin 8) (p : Fin 64) : csx L (ix2 l (cl r p)) = L.chunk.S l r := by
  unfold csx
  pointwise [k0_pay82]
  simp only [expand_at, mul_ite, mul_one, mul_zero, Finset.sum_ite_eq', Finset.mem_univ, if_true]
  rfl

theorem dtx_at (l : Fin 128) (r : Fin 8) (p : Fin 64) : dtx L (ix2 l (cl r p)) = L.chunk.D l r := by
  unfold dtx
  pointwise [k0_pay83]
  simp only [expand_at, mul_ite, mul_one, mul_zero, Finset.sum_ite_eq', Finset.mem_univ, if_true]
  rfl

theorem tot_at (r : Fin 8) (p : Fin 64) : tot L (ix2 0 (cl r p)) = L.chunk.S (last L.d) r := by
  have h : ∀ l, k0_pay82 (F := Ideal) k0_pay81 L.cs (ix2 l (cl r p)) = L.chunk.S l r := fun l => csx_at L l r p
  unfold tot Loads.dir
  generalize L.d = d
  fin_cases d
  · show k0_pay84 (F := Ideal) 0#32 _ _ _ = _
    pointwise [k0_pay84]
    exact h 127
  · show k0_pay84 (F := Ideal) 1#32 _ _ _ = _
    pointwise [k0_pay84]
    exact h 0

theorem xdt_at (l : Fin 128) (r : Fin 8) (p : Fin 64) : xdt L (ix2 l (cl r p)) = L.chunk.xdt l r p := by
  unfold xdt
  pointwise [k0_pay87, k0_pay86]
  rw [dtx_at]
  rfl

theorem dyb_at (l : Fin 128) (r : Fin 8) (p : Fin 64) : dyb L (ix2 l (cl r p)) = L.chunk.Y l r p := by
  unfold dyb
  pointwise [k0_pay88]
  rfl

theorem score_at (l s : Fin 128) : score L (ix2 l s) = L.chunk.score l s := by
  unfold score
  pointwise [k0_pay79, k0_pay77, k0_pay78]
  rfl

theorem decay_at (h : L.Ok) (j : Fin 8) (l s : Fin 128) : decay L j (ix2 l s) = L.chunk.decay (ord L.d) l s j := by
  unfold decay
  pointwise [k0_pay104, k0_pay102, k0_pay103]
  rw [h.col, h.row, show k0_pay80 L.dir (ix2 l s) = _ from mask_at L.d l s, neg_inf]
  unfold Ssd.Chunk.decay
  by_cases ho : ord L.d l s <;> simp only [ho, if_true, if_false, Bool.false_eq_true] <;> rfl

theorem pull_at (l : Fin 128) (r : Fin 8) (p : Fin 64) : pull L (ix2 l (cl r p)) = L.chunk.pull L.state l r p := by
  unfold pull Bb
  pointwise [k0_pay96, k0_pay91, k0_pay90, k0_pay77]
  rfl

theorem tail_at (l : Fin 128) (r : Fin 8) (p : Fin 64) : tail L (ix2 l (cl r p)) = L.chunk.tail (last L.d) l r := by
  unfold tail
  pointwise [k0_pay97]
  rw [csx_at, tot_at]
  rfl

theorem head_at (v : FVec Ideal S128x512 .bf16) (j : Fin 8) (l : Fin 128) (p : Fin 64) :
    head v j (ix2 l p) = v (ix2 l (cl j p)) := by
  fin_cases j <;> (unfold head; pointwise; exact congrArg (fun k => v (ix2 l k)) (Fin.ext (by simp [cl]; try omega)))

/-- A step of the sum over the heads. -/
theorem step_at (h : L.Ok) (acc : FVec Ideal S128x128 .f32) (j : Fin 8) (l s : Fin 128) :
    step L acc j (ix2 l s) = acc (ix2 l s) + (∑ p, L.chunk.Y l j p * L.chunk.xdt s j p) * L.chunk.decay (ord L.d) l s j := by
  unfold step
  pointwise
  simp only [head_at, dyb_at, xdt_at, decay_at L h]

theorem dS_at (h : L.Ok) (l s : Fin 128) : dS L (ix2 l s) = L.chunk.dScore (ord L.d) l s := by
  unfold dS
  simp only [step_at L h, Ssd.Chunk.dScore, Fin.sum_univ_eight]
  pointwise [k0_pay101]

theorem diag_at (h : L.Ok) (s : Fin 128) (r : Fin 8) (p : Fin 64) :
    diag L r (ix2 s p) = L.chunk.within (ord L.d) s r p := by
  unfold diag
  pointwise
  simp only [head_at, dyb_at, score_at, decay_at L h]
  rfl

/-- What the scratch of the heads' parts reads back as. -/
def Holds (w : Vec Ideal S1x128x512 .f32) : Prop := ∀ s r p, w (ix3 0 s (cl r p)) = diag L r (ix2 s p)

variable {L} in
theorem dxdt_at (h : L.Ok) {w : Vec Ideal S1x128x512 .f32} (hw : Holds L w) (l : Fin 128) (r : Fin 8) (p : Fin 64) :
    dxdt L w (ix2 l (cl r p)) = L.chunk.dXdt (ord L.d) (last L.d) L.state l r p := by
  unfold dxdt
  pointwise [k0_pay133, k0_pay132]
  rw [hw, diag_at L h, tail_at, pull_at]
  rfl

variable {L} in
theorem outX_at (h : L.Ok) {w : Vec Ideal S1x128x512 .f32} (hw : Holds L w) (l : Fin 128) (r : Fin 8) (p : Fin 64) :
    outX L w (ix3 0 l (cl r p)) = L.chunk.dX (ord L.d) (last L.d) L.state l r p := by
  unfold outX
  pointwise [k0_pay138]
  rw [dxdt_at h hw, dtx_at]
  rfl

variable {L} in
theorem outStep_at (h : L.Ok) {w : Vec Ideal S1x128x512 .f32} (hw : Holds L w) (l : Fin 128) (r : Fin 8) :
    outStep L w (ix4 0 0 l r) = L.chunk.dStep (ord L.d) (last L.d) L.state l r := by
  unfold outStep
  pointwise [k0_pay137]
  simp only [sum_cl, select_at, dxdt_at h hw, mul_ite, mul_one, mul_zero]
  rw [Finset.sum_eq_single r (fun x _ hx => by simp [Ne.symm hx]) (by simp)]
  simp only [if_true]
  rfl

theorem outH_at (r : Fin 8) (p : Fin 64) (n : Fin 128) :
    outH L (ix3 0 n (cl r p)) = L.chunk.next (last L.d) L.state r p n := by
  unfold outH Cb
  pointwise [k0_pay139, k0_pay90, k0_pay92, k0_pay95, k0_pay78, k0_pay93]
  simp only [tot_at, csx_at]
  rfl

theorem outC_at (h : L.Ok) (l n : Fin 128) : outC L (ix3 0 l n) = L.chunk.dC (ord L.d) l n := by
  unfold outC Bb
  pointwise [k0_pay1, k0_pay141, k0_pay140, k0_pay77, k0_pay94, k0_pay93, k0_pay89]
  simp only [sum_cl, csx_at, dS_at L h]
  rfl

theorem outB_at (h : L.Ok) (s n : Fin 128) : outB L (ix3 0 s n) = L.chunk.dB (ord L.d) (last L.d) L.state s n := by
  unfold outB Cb
  pointwise [k0_pay2, k0_pay99, k0_pay98, k0_pay86, k0_pay91, k0_pay90, k0_pay140, k0_pay78]
  simp only [sum_cl, dS_at L h, dtx_at, show k0_pay97 (csx L) (tot L) = tail L from rfl, tail_at]
  rfl

end Cert.KernelIdeal.Block

end
-- ==== Proof.Places.lean ====
/- Where the kernel's loads and stores fall: the columns and rows of the cumulative sums, the two head groups of
   an output block, and the scratch that collects the heads' parts of the scaled input's gradient. -/
module

public import proofs.«01_k».proof.Proof.Gen.KernelIdeal.Value
public import proofs.«01_k».proof.Proof.Block
public import Idealize.ShloMosaic.Lib.WholeRead

@[expose] public section

set_option maxRecDepth 16384

noncomputable section

namespace Cert.KernelIdeal.Block

open Idealize.ShloMosaic Idealize.ShloMosaic.Tactic Idealize.ShloMosaic.Pipeline Cert.KernelIdeal Cert.KernelIdeal.Gen

/-- Column `p` of head `r` of head group `q`, among the columns of a block. -/
def cw (q : Fin 2) (r : Fin 8) (p : Fin 64) : Fin 1024 := ⟨512 * q.val + (64 * r.val + p.val), by omega⟩

/-- State dimension `n` of head group `q`, among the columns of a block. -/
def cb (q : Fin 2) (n : Fin 128) : Fin 256 := ⟨128 * q.val + n.val, by omega⟩

/-- Head `j` of group `q`, as a column. -/
def colOf (x : Vec Ideal S1x2x128x8 .f32) (q : Fin 2) (j : Fin 8) : Vec Ideal S128x1 .f32 := fun i => x (ix4 0 q (i 0) j)

/-- Head `j` of group `q`, as a row. -/
def rowOf (x : Vec Ideal S1x2x8x128 .f32) (q : Fin 2) (j : Fin 8) : Vec Ideal S1x128 .f32 := fun i => x (ix4 0 q j (i 1))

/-- A shape with two leading axes of size one: the index under the row-major matching. -/
theorem reshape_cons_cons {d : Fin 2 → ℕ} (h : (⟨2, d⟩ : Shape).numel = (⟨4, Matrix.vecCons 1 (Matrix.vecCons 1 d)⟩ : Shape).numel)
    (x : (⟨2, d⟩ : Shape).Idx) : Shape.reshapeEquiv h x = Fin.cons ⟨0, Nat.one_pos⟩ (Fin.cons ⟨0, Nat.one_pos⟩ x) := by
  have h1 : (⟨2, d⟩ : Shape).numel = (⟨3, Matrix.vecCons 1 d⟩ : Shape).numel :=
    (Rect.numel_consShape (Matrix.vecCons 1 d) rfl fun _ => rfl)
  have h2 : (⟨3, Matrix.vecCons 1 d⟩ : Shape).numel = (⟨4, Matrix.vecCons 1 (Matrix.vecCons 1 d)⟩ : Shape).numel :=
    (Rect.numel_consShape (Matrix.vecCons 1 (Matrix.vecCons 1 d)) rfl fun _ => rfl)
  have e := Shape.reshapeEquiv_reshapeEquiv h2 h1 x
  rw [Shape.reshapeEquiv_cons_one h1, Shape.reshapeEquiv_cons_one h2] at e
  exact e.symm

/-- A head's column, loaded through the views the program makes of its block. -/
def colLoad {κ : Kind} {sp : Space} {arg : Memref sig κ sp S1x2x128x8 .f32} (harg : arg.IsWhole) (x : Vec Ideal S1x2x128x8 .f32)
    (q : Fin 2) (j : Fin 8) : Vec Ideal S128x1 .f32 :=
  LoadRect.valAlong (lr := (Rect.unit (s := S128x8) ![0, j.val] ![128, 1] (by fin_cases j <;> decide)).toLoadRect) (by rfl)
    (View.readAt (Elt Ideal) arg.view ((Rect.unit (s := S1x2x128x8) ![0, q.val, 0, 0] ![1, 1, 128, 8] (by fin_cases q <;> decide)).withinL
      (((Rect.unit (s := S128x8) ![0, j.val] ![128, 1] (by fin_cases j <;> decide)).toLoadRect.consLift ![1, 128, 8] rfl (fun _ => rfl) :
        LoadRect ⟨3, ![1, 128, 8]⟩).consLift ![1, 1, 128, 8] rfl (fun _ => rfl) : LoadRect ⟨4, ![1, 1, 128, 8]⟩) (fun _ => rfl)) (harg.unread x))

theorem colLoad_eq {κ : Kind} {sp : Space} {arg : Memref sig κ sp S1x2x128x8 .f32} (harg : arg.IsWhole)
    (x : Vec Ideal S1x2x128x8 .f32) (q : Fin 2) (j : Fin 8) : colLoad harg x q j = colOf x q j := by
  funext i
  unfold colLoad
  generalize_proofs h1 h2 h3 h4 h5
  show View.readAt (Elt Ideal) arg.view _ (harg.unread x) (Shape.reshapeEquiv _ i) = _
  rw [harg.readAt_unread]
  unfold colOf
  refine congrArg x ?_
  have e := reshape_cons_cons (d := ![128, 1]) h5 i
  have hz : (i 1).val = 0 := by have := (i 1).isLt; simp at this; omega
  funext a
  apply Fin.ext
  rw [LoadRect.idx_apply, show (Shape.reshapeEquiv h5 i) = _ from e]
  fin_cases a
  · show (0 + 0) + 1 * 0 = 0
    rfl
  · show (q.val + 0) + 1 * 0 = q.val
    omega
  · show (0 + 0) + 1 * (i 0).val = (i 0).val
    omega
  · show (0 + j.val) + 1 * (i 1).val = j.val
    omega

/-- A head's row, loaded through the views the program makes of its block. -/
def rowLoad {κ : Kind} {sp : Space} {arg : Memref sig κ sp S1x2x8x128 .f32} (harg : arg.IsWhole) (x : Vec Ideal S1x2x8x128 .f32)
    (q : Fin 2) (j : Fin 8) : Vec Ideal S1x128 .f32 :=
  LoadRect.valAlong (lr := (Rect.unit (s := S8x128) ![j.val, 0] ![1, 128] (by fin_cases j <;> decide)).toLoadRect) (by rfl)
    (View.readAt (Elt Ideal) arg.view ((Rect.unit (s := S1x2x8x128) ![0, q.val, 0, 0] ![1, 1, 8, 128] (by fin_cases q <;> decide)).withinL
      (((Rect.unit (s := S8x128) ![j.val, 0] ![1, 128] (by fin_cases j <;> decide)).toLoadRect.consLift ![1, 8, 128] rfl (fun _ => rfl) :
        LoadRect ⟨3, ![1, 8, 128]⟩).consLift ![1, 1, 8, 128] rfl (fun _ => rfl) : LoadRect ⟨4, ![1, 1, 8, 128]⟩) (fun _ => rfl)) (harg.unread x))

theorem rowLoad_eq {κ : Kind} {sp : Space} {arg : Memref sig κ sp S1x2x8x128 .f32} (harg : arg.IsWhole)
    (x : Vec Ideal S1x2x8x128 .f32) (q : Fin 2) (j : Fin 8) : rowLoad harg x q j = rowOf x q j := by
  funext i
  unfold rowLoad
  generalize_proofs h1 h2 h3 h4 h5
  show View.readAt (Elt Ideal) arg.view _ (harg.unread x) (Shape.reshapeEquiv _ i) = _
  rw [harg.readAt_unread]
  unfold rowOf
  refine congrArg x ?_
  have e := reshape_cons_cons (d := ![1, 128]) h5 i
  have hz : (i 0).val = 0 := by have := (i 0).isLt; simp at this; omega
  funext a
  apply Fin.ext
  rw [LoadRect.idx_apply, show (Shape.reshapeEquiv h5 i) = _ from e]
  fin_cases a
  · show (0 + 0) + 1 * 0 = 0
    rfl
  · show (q.val + 0) + 1 * 0 = q.val
    omega
  · show (0 + j.val) + 1 * (i 0).val = j.val
    omega
  · show (0 + 0) + 1 * (i 1).val = (i 1).val
    omega

/-! ## The scratch of the heads' parts -/

/-- What the scratch holds: each head's part, in its group and its columns. -/
def parts (L : Fin 2 → Loads) : S2x128x512.Idx → Elt Ideal .f32 := fun i =>
  diag (L (i 0)) ⟨(i 2).val / 64, by have : (i 2).val < 512 := (i 2).isLt; omega⟩
    (ix2 (i 1) ⟨(i 2).val % 64, by omega⟩)

theorem parts_at (L : Fin 2 → Loads) (q : Fin 2) (s : Fin 128) (r : Fin 8) (p : Fin 64) :
    parts L (ix3 q s (cl r p)) = diag (L q) r (ix2 s p) := by
  have h1 : (⟨(64 * r.val + p.val) / 64, by omega⟩ : Fin 8) = r := Fin.ext (by show (64 * r.val + p.val) / 64 = r.val; omega)
  have h2 : (⟨(64 * r.val + p.val) % 64, by omega⟩ : Fin 64) = p := Fin.ext (by show (64 * r.val + p.val) % 64 = p.val; omega)
  show diag (L q) (⟨(64 * r.val + p.val) / 64, by omega⟩ : Fin 8) (ix2 s (⟨(64 * r.val + p.val) % 64, by omega⟩ : Fin 64)) = _
  rw [h1, h2]

/-- A head's part, stored through the views the program makes of the scratch, lies where `parts` has it. -/
theorem part_stored (L : Fin 2 → Loads) {qn o : ℕ} (q : Fin 2) (j : Fin 8) (hq : qn = q.val) (ho : o = 64 * j.val)
    (w : FVec Ideal S128x64 .f32) (hw : w = diag (L q) j)
    (h1 : ∀ a, (![qn, 0, 0] : Fin 3 → ℕ) a + (![1, 128, 512] : Fin 3 → ℕ) a ≤ S2x128x512.size a)
    (h2 : ∀ a, (![0, o] : Fin 2 → ℕ) a + (![128, 64] : Fin 2 → ℕ) a ≤ S128x512.size a) (e1 e2 e3 e4)
    (x : ((Rect.unit (s := S2x128x512) ![qn, 0, 0] ![1, 128, 512] h1).within
      ((Rect.unit (s := S128x512) ![0, o] ![128, 64] h2).consLift ![1, 128, 512] e1 e2 : Rect S1x128x512) e3).shape.Idx) :
    Rect.payAlong (r := Rect.unit (s := S128x512) ![0, o] ![128, 64] h2) (R := (Rect.unit (s := S2x128x512) ![qn, 0, 0] ![1, 128, 512] h1).within
      ((Rect.unit (s := S128x512) ![0, o] ![128, 64] h2).consLift ![1, 128, 512] e1 e2 : Rect S1x128x512) e3) e4 w x
      = parts L (((Rect.unit (s := S2x128x512) ![qn, 0, 0] ![1, 128, 512] h1).within
        ((Rect.unit (s := S128x512) ![0, o] ![128, 64] h2).consLift ![1, 128, 512] e1 e2 : Rect S1x128x512) e3).emb x) := by
  subst hq ho hw
  have hx1 : (x 1).val < 128 := (x 1).isLt
  have hx2 : (x 2).val < 64 := (x 2).isLt
  have hx0 : (x 0).val = 0 := by have : (x 0).val < 1 := (x 0).isLt; omega
  refine (Rect.payAlong_consLift (Rect.unit (s := S128x512) ![0, 64 * j.val] ![128, 64] h2) ![1, 128, 512] e1 e2 (diag (L q) j) e4 x
    (ix2 (⟨(x 1).val, hx1⟩ : Fin 128) (⟨(x 2).val, hx2⟩ : Fin 64)) ?_).trans ?_
  · intro i
    fin_cases i <;> rfl
  · refine (parts_at L q (⟨(x 1).val, hx1⟩ : Fin 128) j ⟨(x 2).val, hx2⟩).symm.trans (congrArg (parts L) ?_)
    funext a
    apply Fin.ext
    rw [Rect.emb_apply]
    fin_cases a
    · show q.val = (q.val + 0) + 1 * (x 0).val
      omega
    · show (x 1).val = (0 + 0) + 1 * (x 1).val
      omega
    · show 64 * j.val + (x 2).val = (0 + 64 * j.val) + 1 * (x 2).val
      omega

/-- A head's columns lie in the rectangle its part is stored to. -/
theorem part_mem {qn o : ℕ} (q : Fin 2) (j : Fin 8) (hq : qn = q.val) (ho : o = 64 * j.val) (s : Fin 128) (p : Fin 64)
    (h1 : ∀ a, (![qn, 0, 0] : Fin 3 → ℕ) a + (![1, 128, 512] : Fin 3 → ℕ) a ≤ S2x128x512.size a)
    (h2 : ∀ a, (![0, o] : Fin 2 → ℕ) a + (![128, 64] : Fin 2 → ℕ) a ≤ S128x512.size a) (e1 e2 e3) :
    ix3 q s (cl j p) ∈ ((Rect.unit (s := S2x128x512) ![qn, 0, 0] ![1, 128, 512] h1).within
      ((Rect.unit (s := S128x512) ![0, o] ![128, 64] h2).consLift ![1, 128, 512] e1 e2 : Rect S1x128x512) e3).set := by
  subst hq ho
  rw [LoadRect.mem_set]
  intro a
  fin_cases a
  · exact ⟨0, Nat.one_pos, by show q.val = (q.val + 0) + 1 * 0; omega⟩
  · exact ⟨s.val, s.isLt, by show s.val = (0 + 0) + 1 * s.val; omega⟩
  · exact ⟨p.val, p.isLt, by show 64 * j.val + p.val = (0 + 64 * j.val) + 1 * p.val; omega⟩

/-- One more piece that agrees with `G` where it lies. -/
theorem canon_cons_agree {S : Shape} (G : S.Idx → Elt Ideal .f32) (P : View.Piece (Elt Ideal) S .f32)
    (hP : ∀ x : P.1.shape.Idx, P.2 x = G (P.1.emb x)) (M : List (View.Piece (Elt Ideal) S .f32)) (y : S.Idx)
    (h : y ∉ P.1.set → View.canon M y = G y) : View.canon (P :: M) y = G y := by
  by_cases hm : y ∈ P.1.set
  · obtain ⟨x, hx⟩ : ∃ x, P.1.emb x = y := by
      have h' := hm
      rw [← Rect.map_emb_univ] at h'
      obtain ⟨x, -, hx⟩ := Finset.mem_map.mp h'
      exact ⟨x, hx⟩
    obtain ⟨R, w⟩ := P
    subst hx
    rw [View.canon_cons_emb]
    exact hP x
  · rw [View.canon_cons_of_not_mem _ _ hm]
    exact h hm

/-- The scratch's group `q`, once its eight heads' parts are stored, whatever was stored before. -/
theorem holds_of_eight (L : Fin 2 → Loads) {κ : Kind} {sp : Space} (v : View sig κ sp S2x128x512 .f32) (q : Fin 2) {qn : ℕ}
    (hq : qn = q.val) (h1 : ∀ a, (![qn, 0, 0] : Fin 3 → ℕ) a + (![1, 128, 512] : Fin 3 → ℕ) a ≤ S2x128x512.size a)
    (M : List (View.Piece (Elt Ideal) S2x128x512 .f32)) (P0 P1 P2 P3 P4 P5 P6 P7 : View.Piece (Elt Ideal) S2x128x512 .f32)
    (a0 : ∀ x : P0.1.shape.Idx, P0.2 x = parts L (P0.1.emb x)) (m0 : ∀ s p, ix3 q s (cl 0 p) ∈ P0.1.set)
    (a1 : ∀ x : P1.1.shape.Idx, P1.2 x = parts L (P1.1.emb x)) (m1 : ∀ s p, ix3 q s (cl 1 p) ∈ P1.1.set)
    (a2 : ∀ x : P2.1.shape.Idx, P2.2 x = parts L (P2.1.emb x)) (m2 : ∀ s p, ix3 q s (cl 2 p) ∈ P2.1.set)
    (a3 : ∀ x : P3.1.shape.Idx, P3.2 x = parts L (P3.1.emb x)) (m3 : ∀ s p, ix3 q s (cl 3 p) ∈ P3.1.set)
    (a4 : ∀ x : P4.1.shape.Idx, P4.2 x = parts L (P4.1.emb x)) (m4 : ∀ s p, ix3 q s (cl 4 p) ∈ P4.1.set)
    (a5 : ∀ x : P5.1.shape.Idx, P5.2 x = parts L (P5.1.emb x)) (m5 : ∀ s p, ix3 q s (cl 5 p) ∈ P5.1.set)
    (a6 : ∀ x : P6.1.shape.Idx, P6.2 x = parts L (P6.1.emb x)) (m6 : ∀ s p, ix3 q s (cl 6 p) ∈ P6.1.set)
    (a7 : ∀ x : P7.1.shape.Idx, P7.2 x = parts L (P7.1.emb x)) (m7 : ∀ s p, ix3 q s (cl 7 p) ∈ P7.1.set) :
    Holds (L q) (v.readCov (P7 :: P6 :: P5 :: P4 :: P3 :: P2 :: P1 :: P0 :: M)
      (Rect.unit (s := S2x128x512) ![qn, 0, 0] ![1, 128, 512] h1).toLoadRect) := by
  intro s r p
  rw [View.readCov_eq_canon']
  have e : (Rect.unit (s := S2x128x512) ![qn, 0, 0] ![1, 128, 512] h1).toLoadRect.idx (ix3 0 s (cl r p)) = ix3 q s (cl r p) := by
    subst hq
    funext a
    apply Fin.ext
    rw [LoadRect.idx_apply]
    fin_cases a
    · show q.val + 1 * 0 = q.val
      omega
    · show 0 + 1 * s.val = s.val
      omega
    · show 0 + 1 * (cl r p).val = (cl r p).val
      omega
  show View.canon _ ((Rect.unit (s := S2x128x512) ![qn, 0, 0] ![1, 128, 512] h1).toLoadRect.idx (ix3 0 s (cl r p))) = _
  rw [e, ← parts_at]
  refine canon_cons_agree (parts L) P7 a7 _ _ fun n7 => ?_
  refine canon_cons_agree (parts L) P6 a6 _ _ fun n6 => ?_
  refine canon_cons_agree (parts L) P5 a5 _ _ fun n5 => ?_
  refine canon_cons_agree (parts L) P4 a4 _ _ fun n4 => ?_
  refine canon_cons_agree (parts L) P3 a3 _ _ fun n3 => ?_
  refine canon_cons_agree (parts L) P2 a2 _ _ fun n2 => ?_
  refine canon_cons_agree (parts L) P1 a1 _ _ fun n1 => ?_
  refine canon_cons_agree (parts L) P0 a0 _ _ fun n0 => ?_
  fin_cases r
  · exact absurd (m0 s p) n0
  · exact absurd (m1 s p) n1
  · exact absurd (m2 s p) n2
  · exact absurd (m3 s p) n3
  · exact absurd (m4 s p) n4
  · exact absurd (m5 s p) n5
  · exact absurd (m6 s p) n6
  · exact absurd (m7 s p) n7

/-- The piece that stores head `j`'s part of group `q`. -/
def part (L : Fin 2 → Loads) (q : Fin 2) (j : Fin 8) : View.Piece (Elt Ideal) S2x128x512 .f32 :=
  ⟨(Rect.unit (s := S2x128x512) ![q.val, 0, 0] ![1, 128, 512] (by fin_cases q <;> decide)).within
      ((Rect.unit (s := S128x512) ![0, 64 * j.val] ![128, 64] (by fin_cases j <;> decide)).consLift ![1, 128, 512] rfl (fun _ => rfl) :
        Rect S1x128x512) (fun _ => rfl),
    Rect.payAlong (r := Rect.unit (s := S128x512) ![0, 64 * j.val] ![128, 64] (by fin_cases j <;> decide))
      (Rect.numel_consLift (Rect.unit (s := S128x512) ![0, 64 * j.val] ![128, 64] (by fin_cases j <;> decide)) ![1, 128, 512] rfl (fun _ => rfl))
      (diag (L q) j)⟩

/-- The pieces of group `q`, the newest first, on top of `M`. -/
def pieces (L : Fin 2 → Loads) (q : Fin 2) (M : List (View.Piece (Elt Ideal) S2x128x512 .f32)) :
    List (View.Piece (Elt Ideal) S2x128x512 .f32) :=
  part L q 7 :: part L q 6 :: part L q 5 :: part L q 4 :: part L q 3 :: part L q 2 :: part L q 1 :: part L q 0 :: M

/-- The scratch's group `q`, once its pieces are stored. -/
theorem holds_pieces (L : Fin 2 → Loads) {κ : Kind} {sp : Space} (v : View sig κ sp S2x128x512 .f32) (q : Fin 2) {qn : ℕ}
    (hq : qn = q.val) (h1 : ∀ a, (![qn, 0, 0] : Fin 3 → ℕ) a + (![1, 128, 512] : Fin 3 → ℕ) a ≤ S2x128x512.size a)
    (M : List (View.Piece (Elt Ideal) S2x128x512 .f32)) :
    Holds (L q) (v.readCov (pieces L q M) (Rect.unit (s := S2x128x512) ![qn, 0, 0] ![1, 128, 512] h1).toLoadRect) := by
  have a : ∀ j x, (part L q j).2 x = parts L ((part L q j).1.emb x) := fun j x => part_stored L q j rfl rfl _ rfl _ _ _ _ (fun _ => rfl) _ x
  have m : ∀ j s p, ix3 q s (cl j p) ∈ (part L q j).1.set := fun j s p => part_mem q j rfl rfl s p _ _ _ _ (fun _ => rfl)
  exact holds_of_eight L v q hq h1 M _ _ _ _ _ _ _ _ (a 0) (m 0) (a 1) (m 1) (a 2) (m 2) (a 3) (m 3) (a 4) (m 4) (a 5) (m 5) (a 6) (m 6)
    (a 7) (m 7)

/-- The same, of any list of these pieces. -/
theorem holds_of_eq (L : Fin 2 → Loads) {κ : Kind} {sp : Space} (v : View sig κ sp S2x128x512 .f32) (q : Fin 2) {qn : ℕ}
    (hq : qn = q.val) (h1 : ∀ a, (![qn, 0, 0] : Fin 3 → ℕ) a + (![1, 128, 512] : Fin 3 → ℕ) a ≤ S2x128x512.size a)
    {A M : List (View.Piece (Elt Ideal) S2x128x512 .f32)} (e : A = pieces L q M) :
    Holds (L q) (v.readCov A (Rect.unit (s := S2x128x512) ![qn, 0, 0] ![1, 128, 512] h1).toLoadRect) :=
  e ▸ holds_pieces L v q hq h1 M

/-! ## The two groups of an output -/

/-- Of two pieces, the first where it lies. -/
theorem canon_fst {S : Shape} {R₁ R₀ : Rect S} {e : EltTy} (w₁ : R₁.shape.Idx → Elt Ideal e) (w₀ : R₀.shape.Idx → Elt Ideal e)
    (M : List (View.Piece (Elt Ideal) S e)) (x : R₁.shape.Idx) {y : S.Idx} (hy : R₁.emb x = y) :
    View.canon (⟨R₁, w₁⟩ :: ⟨R₀, w₀⟩ :: M) y = w₁ x := by
  subst hy
  exact View.canon_cons_emb _ _ _ _

/-- Of two pieces, the second where it lies and the first does not. -/
theorem canon_snd {S : Shape} {R₁ R₀ : Rect S} {e : EltTy} (w₁ : R₁.shape.Idx → Elt Ideal e) (w₀ : R₀.shape.Idx → Elt Ideal e)
    (M : List (View.Piece (Elt Ideal) S e)) (x : R₀.shape.Idx) {y : S.Idx} (hy : R₀.emb x = y) (h : y ∉ R₁.set) :
    View.canon (⟨R₁, w₁⟩ :: ⟨R₀, w₀⟩ :: M) y = w₀ x := by
  subst hy
  rw [View.canon_cons_of_not_mem _ _ h]
  exact View.canon_cons_emb _ _ _ _

end Cert.KernelIdeal.Block

end
-- ==== Proof.Pieces.lean ====
/- What one run of the kernel's body stores, read as the formulas of one chunk per head group: the program's pieces
   are the functions of `Block` at what it loaded, once for each of the two groups, at the first chunk of a scan
   (where the gradient of the state starts from nothing) and at every later one. -/
module

public import proofs.«01_k».proof.Proof.Places

@[expose] public section

set_option maxRecDepth 16384

noncomputable section

namespace Cert.KernelIdeal.Block

open Idealize.ShloMosaic Idealize.ShloMosaic.Tactic Idealize.ShloMosaic.Pipeline Cert.KernelIdeal Cert.KernelIdeal.Gen

variable {κ : Kind} {sp : Space} {arg7 : Memref sig κ sp S1x2x128x8 .f32} (harg7 : arg7.IsWhole)
  {κ' : Kind} {sp' : Space} {arg8 : Memref sig κ' sp' S1x2x8x128 .f32} (harg8 : arg8.IsWhole)

/-- What a point loads for each of its two head groups, out of its blocks and the carried scratch. -/
def loads (d : Fin 2) (x0 : Vec Ideal S128x1024 .f32) (x1 x2 : Vec Ideal S128x256 .f32) (x3 x4 : Vec Ideal S1x2x128x8 .f32)
    (x5 : Vec Ideal S1x2x8x128 .f32) (x6 : Vec Ideal S1x1x2x128x512 .f32) (x8 : Vec Ideal S128x1024 .f32)
    (h : Vec Ideal S2x128x512 .f32) : Fin 2 → Loads
  | 0 =>
    { d := d
      B := View.ld x1 (Rect.unit ![0, 0] ![128, 128] inb_S128x256_S128x128_0_0)
      C := View.ld x2 (Rect.unit ![0, 0] ![128, 128] inb_S128x256_S128x128_0_0)
      dt := View.ld x3 (Rect.unit ![0, 0, 0, 0] ![1, 1, 128, 8] inb_S1x2x128x8_S1x1x128x8_0_0_0_0)
      cs := View.ld x4 (Rect.unit ![0, 0, 0, 0] ![1, 1, 128, 8] inb_S1x2x128x8_S1x1x128x8_0_0_0_0)
      col := colLoad harg7 x4 0
      row := rowLoad harg8 x5 0
      P := View.ld x6 (Rect.unit ![0, 0, 0, 0, 0] ![1, 1, 1, 128, 512] inb_S1x1x2x128x512_S1x1x1x128x512_0_0_0_0_0)
      x := View.ld x0 (Rect.unit ![0, 0] ![128, 512] inb_S128x1024_S128x512_0_0)
      dy := View.ld x8 (Rect.unit ![0, 0] ![128, 512] inb_S128x1024_S128x512_0_0)
      H := View.ld h (Rect.unit ![0, 0, 0] ![1, 128, 512] inb_S2x128x512_S1x128x512_0_0_0) }
  | 1 =>
    { d := d
      B := View.ld x1 (Rect.unit ![0, 128] ![128, 128] inb_S128x256_S128x128_0_128)
      C := View.ld x2 (Rect.unit ![0, 128] ![128, 128] inb_S128x256_S128x128_0_128)
      dt := View.ld x3 (Rect.unit ![0, 1, 0, 0] ![1, 1, 128, 8] inb_S1x2x128x8_S1x1x128x8_0_1_0_0)
      cs := View.ld x4 (Rect.unit ![0, 1, 0, 0] ![1, 1, 128, 8] inb_S1x2x128x8_S1x1x128x8_0_1_0_0)
      col := colLoad harg7 x4 1
      row := rowLoad harg8 x5 1
      P := View.ld x6 (Rect.unit ![0, 0, 1, 0, 0] ![1, 1, 1, 128, 512] inb_S1x1x2x128x512_S1x1x1x128x512_0_0_1_0_0)
      x := View.ld x0 (Rect.unit ![0, 512] ![128, 512] inb_S128x1024_S128x512_0_512)
      dy := View.ld x8 (Rect.unit ![0, 512] ![128, 512] inb_S128x1024_S128x512_0_512)
      H := View.ld h (Rect.unit ![1, 0, 0] ![1, 128, 512] inb_S2x128x512_S1x128x512_1_0_0) }

/-- The pieces a run stores in the five outputs that matter, `L` what it loaded. -/
def Stored (L : Fin 2 → Loads) (o9 : List (View.Piece (Elt Ideal) S1x128x1024 .f32)) (o10 o11 : List (View.Piece (Elt Ideal) S1x128x256 .f32))
    (o14 : List (View.Piece (Elt Ideal) S1x2x128x8 .f32)) (s0 : List (View.Piece (Elt Ideal) S2x128x512 .f32)) : Prop :=
  ∃ w : Fin 2 → Vec Ideal S1x128x512 .f32, (∀ q, Holds (L q) (w q)) ∧ ∃ M,
    o9 = [⟨Rect.unit ![0, 0, 512] ![1, 128, 512] inb_S1x128x1024_S1x128x512_0_0_512, outX (L 1) (w 1)⟩,
      ⟨Rect.unit ![0, 0, 0] ![1, 128, 512] inb_S1x128x1024_S1x128x512_0_0_0, outX (L 0) (w 0)⟩]
    ∧ o10 = [⟨Rect.unit ![0, 0, 128] ![1, 128, 128] inb_S1x128x256_S1x128x128_0_0_128, outB (L 1)⟩,
      ⟨Rect.unit ![0, 0, 0] ![1, 128, 128] inb_S1x128x256_S1x128x128_0_0_0, outB (L 0)⟩]
    ∧ o11 = [⟨Rect.unit ![0, 0, 128] ![1, 128, 128] inb_S1x128x256_S1x128x128_0_0_128, outC (L 1)⟩,
      ⟨Rect.unit ![0, 0, 0] ![1, 128, 128] inb_S1x128x256_S1x128x128_0_0_0, outC (L 0)⟩]
    ∧ o14 = [⟨Rect.unit ![0, 1, 0, 0] ![1, 1, 128, 8] inb_S1x2x128x8_S1x1x128x8_0_1_0_0, outStep (L 1) (w 1)⟩,
      ⟨Rect.unit ![0, 0, 0, 0] ![1, 1, 128, 8] inb_S1x2x128x8_S1x1x128x8_0_0_0_0, outStep (L 0) (w 0)⟩]
    ∧ s0 = ⟨Rect.unit ![1, 0, 0] ![1, 128, 512] inb_S2x128x512_S1x128x512_1_0_0, outH (L 1)⟩
      :: ⟨Rect.unit ![0, 0, 0] ![1, 128, 512] inb_S2x128x512_S1x128x512_0_0_0, outH (L 0)⟩ :: M

theorem canon_whole (w : Vec Ideal S2x128x512 .f32) (y : S2x128x512.Idx) :
    View.canon (Val := Elt Ideal) [(⟨Rect.unit ![0, 0, 0] ![2, 128, 512] inb_S2x128x512_S2x128x512_0_0_0, w⟩ : View.Piece (Elt Ideal) S2x128x512 .f32)] y = w y := by
  refine canon_cons_agree w _ (fun x => congrArg w (Eq.symm ?_)) _ _ fun h => absurd ?_ h
  · funext a
    apply Fin.ext
    rw [Rect.emb_apply]
    fin_cases a <;> (show 0 + 1 * _ = _; omega)
  · rw [LoadRect.mem_set]
    intro a
    refine ⟨(y a).val, ?_, ?_⟩
    · fin_cases a <;> exact (y _).isLt
    · fin_cases a <;> (show _ = 0 + 1 * _; omega)

/-- The first chunk's load of the carried scratch, group 0: what the program has just filled it with. -/
theorem first_load0 {κ : Kind} {sp : Space} (v : View sig κ sp S2x128x512 .f32) (h : Vec Ideal S2x128x512 .f32) :
    v.readCov (Val := Elt Ideal) [⟨Rect.unit ![0, 0, 0] ![2, 128, 512] inb_S2x128x512_S2x128x512_0_0_0, h⟩]
      (Rect.unit (s := S2x128x512) ![0, 0, 0] ![1, 128, 512] inb_S2x128x512_S1x128x512_0_0_0).toLoadRect
    = View.ld h (Rect.unit ![0, 0, 0] ![1, 128, 512] inb_S2x128x512_S1x128x512_0_0_0) := by
  rw [View.readCov_eq_canon']
  funext j
  exact canon_whole _ _

/-- The same, group 1, after the other group's state is stored. -/
theorem first_load1 {κ : Kind} {sp : Space} (v : View sig κ sp S2x128x512 .f32) (w : Vec Ideal S1x128x512 .f32) (h : Vec Ideal S2x128x512 .f32) :
    v.readCov (Val := Elt Ideal) [⟨Rect.unit ![0, 0, 0] ![1, 128, 512] inb_S2x128x512_S1x128x512_0_0_0, w⟩,
        ⟨Rect.unit ![0, 0, 0] ![2, 128, 512] inb_S2x128x512_S2x128x512_0_0_0, h⟩]
      (Rect.unit (s := S2x128x512) ![1, 0, 0] ![1, 128, 512] inb_S2x128x512_S1x128x512_1_0_0).toLoadRect
    = View.ld h (Rect.unit ![1, 0, 0] ![1, 128, 512] inb_S2x128x512_S1x128x512_1_0_0) := by
  rw [View.readCov_eq_canon']
  funext j
  refine (View.canon_cons_of_not_mem _ _ fun hm => ?_).trans (canon_whole _ _)
  obtain ⟨k, hk, e⟩ := (LoadRect.mem_set _).mp hm 0
  have h0 : k < 1 := hk
  have e' : 1 + 1 * (j 0).val = 0 + 1 * k := e
  omega

set_option maxHeartbeats 2000000 in
theorem stored_B (c : Dev nD) (i : grid0.Coords) (arg3 : Memref sig .tc .vmem S128x1024 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x2x128x8 .f32) (harg6 : arg6.IsWhole) (arg7 : Memref sig .tc .vmem S1x2x128x8 .f32) (harg7 : arg7.IsWhole) (arg8 : Memref sig .tc .vmem S1x2x8x128 .f32) (harg8 : arg8.IsWhole) (arg9 : Memref sig .tc .vmem S1x1x2x128x512 .f32) (harg9 : arg9.IsWhole) (arg10 : Memref sig .tc .vmem S1x128x1024 .f32) (harg10 : arg10.IsWhole) (arg11 : Memref sig .tc .vmem S128x1024 .f32) (harg11 : arg11.IsWhole) (arg12 : Memref sig .tc .vmem S1x128x1024 .f32) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x2x128x8 .f32) (harg15 : arg15.IsWhole) (arg16 : Memref sig .tc .vmem S1x2x128x8 .f32) (harg16 : arg16.IsWhole) (arg17 : Memref sig .tc .vmem S1x2x128x8 .f32) (harg17 : arg17.IsWhole) (arg18 : Memref sig .tc .vmem S2x128x512 .f32) (harg18 : arg18.IsWhole) (arg19 : Memref sig .tc .vmem S2x128x512 .f32) (harg19 : arg19.IsWhole) (hc0 : ¬cond0_0 i)
    (x0 : Vec Ideal S128x1024 .f32) (x1 : Vec Ideal S128x256 .f32) (x2 : Vec Ideal S128x256 .f32) (x3 : Vec Ideal S1x2x128x8 .f32) (x4 : Vec Ideal S1x2x128x8 .f32) (x5 : Vec Ideal S1x2x8x128 .f32) (x6 : Vec Ideal S1x1x2x128x512 .f32) (x7 : Vec Ideal S1x128x1024 .f32) (x8 : Vec Ideal S128x1024 .f32) (xs0 : Vec Ideal S2x128x512 .f32) :
    Stored (loads harg7 harg8 (i 0) x0 x1 x2 x3 x4 x5 x6 x8 xs0) (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xs0).1 (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xs0).2.1
      (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xs0).2.2.1 (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xs0).2.2.2.2.2.1
      (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xs0).2.2.2.2.2.2.1 := by
  unfold kernelRun0_B
  dsimp only
  sl_unfold_words
  simp only [View.readAt_eq_ld, harg3.read_unread, harg4.read_unread, harg5.read_unread, harg6.read_unread, harg7.read_unread, harg8.read_unread, harg9.read_unread, harg11.read_unread, harg18.read_unread]
  generalize hw1 : arg19.view.readCov (Val := Elt Ideal) _ (Rect.unit (s := S2x128x512) ![1, 0, 0] ![1, 128, 512] inb_S2x128x512_S1x128x512_1_0_0).toLoadRect = w1
  generalize hw0 : arg19.view.readCov (Val := Elt Ideal) _ (Rect.unit (s := S2x128x512) ![0, 0, 0] ![1, 128, 512] inb_S2x128x512_S1x128x512_0_0_0).toLoadRect = w0
  refine ⟨![w0, w1], ?_, [], ?_, ?_, ?_, ?_, ?_⟩
  · subst hw0 hw1
    refine Fin.forall_fin_two.mpr ⟨?_, ?_⟩
    · refine holds_of_eq (loads harg7 harg8 (i 0) x0 x1 x2 x3 x4 x5 x6 x8 xs0) arg19.view 0 rfl inb_S2x128x512_S1x128x512_0_0_0 (congrArg₂ List.cons (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (rfl)))))))))
      all_goals
        dsimp only [k0_pay1, k0_pay2, k0_pay7, k0_pay8, k0_pay9, k0_pay10, k0_pay11, k0_pay15, k0_pay16, k0_pay17, k0_pay18, k0_pay80,
      k0_pay81, k0_pay85, k0_pay4, k0_pay5, k0_pay6, k0_pay12, k0_pay13, k0_pay14, k0_pay19, k0_pay20, k0_pay21, k0_pay22,
      k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay82, k0_pay83, k0_pay84,
      k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141,
      loads, outX, outB, outC, outStep, outH, dxdt, dS, step, decay, head, pull, tail, score, diag, Bb, Cb, dyb, xdt, tot, dtx,
      csx, Loads.dir, Matrix.cons_val_zero, Matrix.cons_val_one] <;> rfl
    · refine holds_of_eq (loads harg7 harg8 (i 0) x0 x1 x2 x3 x4 x5 x6 x8 xs0) arg19.view 1 rfl inb_S2x128x512_S1x128x512_1_0_0 (congrArg₂ List.cons (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (rfl)))))))))
      all_goals
        dsimp only [k0_pay1, k0_pay2, k0_pay7, k0_pay8, k0_pay9, k0_pay10, k0_pay11, k0_pay15, k0_pay16, k0_pay17, k0_pay18, k0_pay80,
      k0_pay81, k0_pay85, k0_pay4, k0_pay5, k0_pay6, k0_pay12, k0_pay13, k0_pay14, k0_pay19, k0_pay20, k0_pay21, k0_pay22,
      k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay82, k0_pay83, k0_pay84,
      k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141,
      loads, outX, outB, outC, outStep, outH, dxdt, dS, step, decay, head, pull, tail, score, diag, Bb, Cb, dyb, xdt, tot, dtx,
      csx, Loads.dir, Matrix.cons_val_zero, Matrix.cons_val_one] <;> rfl
  all_goals
    clear hw0 hw1
    refine congrArg₂ List.cons (congrArg (Sigma.mk _) ?_) (congrArg₂ List.cons (congrArg (Sigma.mk _) ?_) rfl)
  all_goals
    dsimp only [k0_pay1, k0_pay2, k0_pay7, k0_pay8, k0_pay9, k0_pay10, k0_pay11, k0_pay15, k0_pay16, k0_pay17, k0_pay18, k0_pay80,
      k0_pay81, k0_pay85, k0_pay4, k0_pay5, k0_pay6, k0_pay12, k0_pay13, k0_pay14, k0_pay19, k0_pay20, k0_pay21, k0_pay22,
      k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay82, k0_pay83, k0_pay84,
      k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141,
      loads, outX, outB, outC, outStep, outH, dxdt, dS, step, decay, head, pull, tail, score, diag, Bb, Cb, dyb, xdt, tot, dtx,
      csx, Loads.dir, Matrix.cons_val_zero, Matrix.cons_val_one] <;> rfl

set_option maxHeartbeats 2000000 in
theorem stored_A (c : Dev nD) (i : grid0.Coords) (arg3 : Memref sig .tc .vmem S128x1024 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x2x128x8 .f32) (harg6 : arg6.IsWhole) (arg7 : Memref sig .tc .vmem S1x2x128x8 .f32) (harg7 : arg7.IsWhole) (arg8 : Memref sig .tc .vmem S1x2x8x128 .f32) (harg8 : arg8.IsWhole) (arg9 : Memref sig .tc .vmem S1x1x2x128x512 .f32) (harg9 : arg9.IsWhole) (arg10 : Memref sig .tc .vmem S1x128x1024 .f32) (harg10 : arg10.IsWhole) (arg11 : Memref sig .tc .vmem S128x1024 .f32) (harg11 : arg11.IsWhole) (arg12 : Memref sig .tc .vmem S1x128x1024 .f32) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x2x128x8 .f32) (harg15 : arg15.IsWhole) (arg16 : Memref sig .tc .vmem S1x2x128x8 .f32) (harg16 : arg16.IsWhole) (arg17 : Memref sig .tc .vmem S1x2x128x8 .f32) (harg17 : arg17.IsWhole) (arg18 : Memref sig .tc .vmem S2x128x512 .f32) (harg18 : arg18.IsWhole) (arg19 : Memref sig .tc .vmem S2x128x512 .f32) (harg19 : arg19.IsWhole) (hc0 : cond0_0 i)
    (x0 : Vec Ideal S128x1024 .f32) (x1 : Vec Ideal S128x256 .f32) (x2 : Vec Ideal S128x256 .f32) (x3 : Vec Ideal S1x2x128x8 .f32) (x4 : Vec Ideal S1x2x128x8 .f32) (x5 : Vec Ideal S1x2x8x128 .f32) (x6 : Vec Ideal S1x1x2x128x512 .f32) (x7 : Vec Ideal S1x128x1024 .f32) (x8 : Vec Ideal S128x1024 .f32) :
    Stored (loads harg7 harg8 (i 0) x0 x1 x2 x3 x4 x5 x6 x8 (k0_pay3 (F := Ideal))) (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1 (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1
      (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1 (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.1
      (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.2.1 := by
  unfold kernelRun0_A
  dsimp only
  sl_unfold_words
  simp only [View.readAt_eq_ld, harg3.read_unread, harg4.read_unread, harg5.read_unread, harg6.read_unread, harg7.read_unread, harg8.read_unread, harg9.read_unread, harg11.read_unread, harg18.read_unread]
  generalize hh1 : arg18.view.readCov (Val := Elt Ideal) _ (Rect.unit (s := S2x128x512) ![1, 0, 0] ![1, 128, 512] inb_S2x128x512_S1x128x512_1_0_0).toLoadRect = h1
  have e1 := hh1.symm.trans (first_load1 arg18.view _ _)
  clear hh1
  subst e1
  generalize hh0 : arg18.view.readCov (Val := Elt Ideal) _ (Rect.unit (s := S2x128x512) ![0, 0, 0] ![1, 128, 512] inb_S2x128x512_S1x128x512_0_0_0).toLoadRect = h0
  have e0 := hh0.symm.trans (first_load0 arg18.view _)
  clear hh0
  subst e0
  generalize hw1 : arg19.view.readCov (Val := Elt Ideal) _ (Rect.unit (s := S2x128x512) ![1, 0, 0] ![1, 128, 512] inb_S2x128x512_S1x128x512_1_0_0).toLoadRect = w1
  generalize hw0 : arg19.view.readCov (Val := Elt Ideal) _ (Rect.unit (s := S2x128x512) ![0, 0, 0] ![1, 128, 512] inb_S2x128x512_S1x128x512_0_0_0).toLoadRect = w0
  refine ⟨![w0, w1], ?_, [⟨Rect.unit ![0, 0, 0] ![2, 128, 512] inb_S2x128x512_S2x128x512_0_0_0, k0_pay3 (F := Ideal)⟩], ?_, ?_, ?_, ?_, ?_⟩
  · subst hw0 hw1
    refine Fin.forall_fin_two.mpr ⟨?_, ?_⟩
    · refine holds_of_eq (loads harg7 harg8 (i 0) x0 x1 x2 x3 x4 x5 x6 x8 (k0_pay3 (F := Ideal))) arg19.view 0 rfl inb_S2x128x512_S1x128x512_0_0_0 (congrArg₂ List.cons (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (rfl)))))))))
      all_goals
        dsimp only [k0_pay1, k0_pay2, k0_pay7, k0_pay8, k0_pay9, k0_pay10, k0_pay11, k0_pay15, k0_pay16, k0_pay17, k0_pay18, k0_pay80,
      k0_pay81, k0_pay85, k0_pay4, k0_pay5, k0_pay6, k0_pay12, k0_pay13, k0_pay14, k0_pay19, k0_pay20, k0_pay21, k0_pay22,
      k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay82, k0_pay83, k0_pay84,
      k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141,
      loads, outX, outB, outC, outStep, outH, dxdt, dS, step, decay, head, pull, tail, score, diag, Bb, Cb, dyb, xdt, tot, dtx,
      csx, Loads.dir, Matrix.cons_val_zero, Matrix.cons_val_one] <;> rfl
    · refine holds_of_eq (loads harg7 harg8 (i 0) x0 x1 x2 x3 x4 x5 x6 x8 (k0_pay3 (F := Ideal))) arg19.view 1 rfl inb_S2x128x512_S1x128x512_1_0_0 (congrArg₂ List.cons (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (congrArg₂ List.cons
        (congrArg (Sigma.mk _) (congrArg (Rect.payAlong _) ?_)) (rfl)))))))))
      all_goals
        dsimp only [k0_pay1, k0_pay2, k0_pay7, k0_pay8, k0_pay9, k0_pay10, k0_pay11, k0_pay15, k0_pay16, k0_pay17, k0_pay18, k0_pay80,
      k0_pay81, k0_pay85, k0_pay4, k0_pay5, k0_pay6, k0_pay12, k0_pay13, k0_pay14, k0_pay19, k0_pay20, k0_pay21, k0_pay22,
      k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay82, k0_pay83, k0_pay84,
      k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141,
      loads, outX, outB, outC, outStep, outH, dxdt, dS, step, decay, head, pull, tail, score, diag, Bb, Cb, dyb, xdt, tot, dtx,
      csx, Loads.dir, Matrix.cons_val_zero, Matrix.cons_val_one] <;> rfl
  all_goals
    clear hw0 hw1
    refine congrArg₂ List.cons (congrArg (Sigma.mk _) ?_) (congrArg₂ List.cons (congrArg (Sigma.mk _) ?_) rfl)
  all_goals
    dsimp only [k0_pay1, k0_pay2, k0_pay7, k0_pay8, k0_pay9, k0_pay10, k0_pay11, k0_pay15, k0_pay16, k0_pay17, k0_pay18, k0_pay80,
      k0_pay81, k0_pay85, k0_pay4, k0_pay5, k0_pay6, k0_pay12, k0_pay13, k0_pay14, k0_pay19, k0_pay20, k0_pay21, k0_pay22,
      k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay82, k0_pay83, k0_pay84,
      k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141,
      loads, outX, outB, outC, outStep, outH, dxdt, dS, step, decay, head, pull, tail, score, diag, Bb, Cb, dyb, xdt, tot, dtx,
      csx, Loads.dir, Matrix.cons_val_zero, Matrix.cons_val_one] <;> rfl

end Cert.KernelIdeal.Block

end
-- ==== Proof.Points.lean ====
/- What every grid point leaves in the outputs and in the carried scratch: the formulas of one chunk at what the
   point loads, index by index. -/
module

public import proofs.«01_k».proof.Proof.Pieces

@[expose] public section

set_option maxRecDepth 16384

noncomputable section

namespace Cert.KernelIdeal.Block

open Idealize.ShloMosaic Idealize.ShloMosaic.Tactic Idealize.ShloMosaic.Pipeline Cert.KernelIdeal Cert.KernelIdeal.Gen

/-! ## The pieces, index by index -/

section
variable {L : Fin 2 → Loads} {o9 : List (View.Piece (Elt Ideal) S1x128x1024 .f32)} {o10 o11 : List (View.Piece (Elt Ideal) S1x128x256 .f32)}
  {o14 : List (View.Piece (Elt Ideal) S1x2x128x8 .f32)} {s0 : List (View.Piece (Elt Ideal) S2x128x512 .f32)}

/-- The first of two pieces is off an index whose coordinate on some axis lies below it. -/
theorem not_mem_of_lt {S : Shape} (off size : Fin S.rank → ℕ) (h : ∀ a, off a + size a ≤ S.size a) (y : S.Idx) (a : Fin S.rank)
    (hy : (y a).val < off a) : y ∉ (Rect.unit (s := S) off size h).set := by
  intro hm
  obtain ⟨k, -, e⟩ := (LoadRect.mem_set _).mp hm a
  have e' : (y a).val = off a + 1 * k := e
  omega

theorem Stored.dX (h : Stored L o9 o10 o11 o14 s0) (hok : ∀ q, (L q).Ok) (q : Fin 2) (s : Fin 128) (r : Fin 8) (p : Fin 64) :
    View.canon o9 (ix3 0 s (cw q r p)) = (L q).chunk.dX (ord (L q).d) (last (L q).d) (L q).state s r p := by
  obtain ⟨w, hw, M, e, -⟩ := h
  subst e
  rw [← outX_at (hok q) (hw q)]
  have hp := p.isLt
  have hr := r.isLt
  revert q
  refine Fin.forall_fin_two.mpr ?_
  generalize outX (L 1) (w 1) = u1
  generalize outX (L 0) (w 0) = u0
  refine ⟨?_, ?_⟩
  · refine canon_snd _ _ _ _ ?_ (not_mem_of_lt _ _ _ _ 2 ?_)
    · funext a; apply Fin.ext; rw [Rect.emb_apply]
      fin_cases a <;> simp [ix3, cw, cl, Rect.unit]
    · show 512 * 0 + (64 * r.val + p.val) < 512
      omega
  · refine canon_fst _ _ _ _ ?_
    funext a; apply Fin.ext; rw [Rect.emb_apply]
    fin_cases a <;> simp [ix3, cw, cl, Rect.unit]

theorem Stored.dB (h : Stored L o9 o10 o11 o14 s0) (hok : ∀ q, (L q).Ok) (q : Fin 2) (s n : Fin 128) :
    View.canon o10 (ix3 0 s (cb q n)) = (L q).chunk.dB (ord (L q).d) (last (L q).d) (L q).state s n := by
  obtain ⟨w, hw, M, -, e, -⟩ := h
  subst e
  rw [← outB_at (L q) (hok q)]
  have hn := n.isLt
  revert q
  refine Fin.forall_fin_two.mpr ?_
  generalize outB (L 1) = u1
  generalize outB (L 0) = u0
  refine ⟨?_, ?_⟩
  · refine canon_snd _ _ _ _ ?_ (not_mem_of_lt _ _ _ _ 2 ?_)
    · funext a; apply Fin.ext; rw [Rect.emb_apply]
      fin_cases a <;> simp [ix3, cb, Rect.unit]
    · show 128 * 0 + n.val < 128
      omega
  · refine canon_fst _ _ _ _ ?_
    funext a; apply Fin.ext; rw [Rect.emb_apply]
    fin_cases a <;> simp [ix3, cb, Rect.unit]

theorem Stored.dC (h : Stored L o9 o10 o11 o14 s0) (hok : ∀ q, (L q).Ok) (q : Fin 2) (s n : Fin 128) :
    View.canon o11 (ix3 0 s (cb q n)) = (L q).chunk.dC (ord (L q).d) s n := by
  obtain ⟨w, hw, M, -, -, e, -⟩ := h
  subst e
  rw [← outC_at (L q) (hok q)]
  have hn := n.isLt
  revert q
  refine Fin.forall_fin_two.mpr ?_
  generalize outC (L 1) = u1
  generalize outC (L 0) = u0
  refine ⟨?_, ?_⟩
  · refine canon_snd _ _ _ _ ?_ (not_mem_of_lt _ _ _ _ 2 ?_)
    · funext a; apply Fin.ext; rw [Rect.emb_apply]
      fin_cases a <;> simp [ix3, cb, Rect.unit]
    · show 128 * 0 + n.val < 128
      omega
  · refine canon_fst _ _ _ _ ?_
    funext a; apply Fin.ext; rw [Rect.emb_apply]
    fin_cases a <;> simp [ix3, cb, Rect.unit]

theorem Stored.dStep (h : Stored L o9 o10 o11 o14 s0) (hok : ∀ q, (L q).Ok) (q : Fin 2) (s : Fin 128) (r : Fin 8) :
    View.canon o14 (ix4 0 q s r) = (L q).chunk.dStep (ord (L q).d) (last (L q).d) (L q).state s r := by
  obtain ⟨w, hw, M, -, -, -, e, -⟩ := h
  subst e
  rw [← outStep_at (hok q) (hw q)]
  revert q
  refine Fin.forall_fin_two.mpr ?_
  generalize outStep (L 1) (w 1) = u1
  generalize outStep (L 0) (w 0) = u0
  refine ⟨?_, ?_⟩
  · refine canon_snd _ _ _ _ ?_ (not_mem_of_lt _ _ _ _ 1 Nat.one_pos)
    funext a; apply Fin.ext; rw [Rect.emb_apply]
    fin_cases a <;> simp [ix4, Rect.unit]
  · refine canon_fst _ _ _ _ ?_
    funext a; apply Fin.ext; rw [Rect.emb_apply]
    fin_cases a <;> simp [ix4, Rect.unit]

theorem Stored.next (h : Stored L o9 o10 o11 o14 s0) (q : Fin 2) (r : Fin 8) (p : Fin 64) (n : Fin 128) :
    View.canon s0 (ix3 q n (cl r p)) = (L q).chunk.next (last (L q).d) (L q).state r p n := by
  obtain ⟨w, hw, M, -, -, -, -, e⟩ := h
  subst e
  rw [← outH_at (L q)]
  revert q
  refine Fin.forall_fin_two.mpr ?_
  generalize outH (L 1) = u1
  generalize outH (L 0) = u0
  refine ⟨?_, ?_⟩
  · refine canon_snd _ _ _ _ ?_ (not_mem_of_lt _ _ _ _ 0 Nat.one_pos)
    funext a; apply Fin.ext; rw [Rect.emb_apply]
    fin_cases a <;> simp [ix3, Rect.unit]
  · refine canon_fst _ _ _ _ ?_
    funext a; apply Fin.ext; rw [Rect.emb_apply]
    fin_cases a <;> simp [ix3, Rect.unit]

end

/-! ## A point -/

variable (m : (ℓ : Loc nD τ sig) → Buf (Elt Ideal) ℓ) (c : Dev nD) (t : Fin cfg0.N)

/-- What the carried scratch holds when point `t` reads it. -/
def carriedIn : Vec Ideal S2x128x512 .f32 :=
  if t.val % 32 = 0 then k0_pay3 (F := Ideal) else (outsAt0 m c (t.val - 1) (Nat.lt_of_le_of_lt (Nat.sub_le _ _) t.isLt)).2.2.2.2.2.2

/-- What point `t` loads. -/
def loadsAt : Fin 2 → Loads :=
  loads (hs0_4 t) (hs0_5 t) (grid0.coords t 0) (iblk m c 0 t) (iblk m c 1 t) (iblk m c 2 t) (iblk m c 3 t) (iblk m c 4 t) (iblk m c 5 t)
    (iblk m c 6 t) (iblk m c 8 t) (carriedIn m c t)

theorem stored_at : ∃ o9 o10 o11 o14 s0, Stored (loadsAt m c t) o9 o10 o11 o14 s0 ∧ (outsAt0 m c t.val t.isLt).1 = View.canon o9
    ∧ (outsAt0 m c t.val t.isLt).2.1 = View.canon o10 ∧ (outsAt0 m c t.val t.isLt).2.2.1 = View.canon o11
    ∧ (outsAt0 m c t.val t.isLt).2.2.2.2.2.1 = View.canon o14 ∧ (outsAt0 m c t.val t.isLt).2.2.2.2.2.2 = View.canon s0 := by
  unfold loadsAt carriedIn
  by_cases h0 : t.val % 32 = 0
  · rw [outsAt0_A m c t h0, if_pos h0]
    refine ⟨_, _, _, _, _, stored_A c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t) (ms0_14 t) (hs0_14 t)
      scM0_0 (Memref.isWhole_whole _) scM0_1 (Memref.isWhole_whole _) ((hcond0_0 t).mpr h0) (iblk m c 0 t) (iblk m c 1 t) (iblk m c 2 t)
      (iblk m c 3 t) (iblk m c 4 t) (iblk m c 5 t) (iblk m c 6 t) (iblk m c 7 t) (iblk m c 8 t), ?_, ?_, ?_, ?_, ?_⟩ <;>
      dsimp only [out0_A_9, out0_A_10, out0_A_11, out0_A_14, sout0_A_0] <;>
      exact View.read_writes_junk_eq_canon (Val := Elt Ideal) _ _
  · rw [outsAt0_B m c t h0, if_neg h0]
    refine ⟨_, _, _, _, _, stored_B c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t) (ms0_14 t) (hs0_14 t)
      scM0_0 (Memref.isWhole_whole _) scM0_1 (Memref.isWhole_whole _) (fun h => h0 ((hcond0_0 t).mp h)) (iblk m c 0 t) (iblk m c 1 t)
      (iblk m c 2 t) (iblk m c 3 t) (iblk m c 4 t) (iblk m c 5 t) (iblk m c 6 t) (iblk m c 7 t) (iblk m c 8 t) _, ?_, ?_, ?_, ?_, ?_⟩ <;>
      dsimp only [out0_B_9, out0_B_10, out0_B_11, out0_B_14, sout0_B_0] <;>
      exact View.read_writes_junk_eq_canon (Val := Elt Ideal) _ _

end Cert.KernelIdeal.Block

end
-- ==== Proof.Args.lean ====
/- The chunks of the bidirectional scan as pieces of the arguments.

   The second direction reads the sequence from its end: position `l` of its chunk `c` is row `4095 - (128 c + l)` of
   the arrays.  `chunkOf` gathers what a chunk of one head group in one direction reads. -/
module

public import proofs.«01_k».proof.Proof.Spec
public import Idealize.ShloMosaic.Lib.Pointwise

@[expose] public section

noncomputable section

namespace Ssd

open Idealize.ShloMosaic Idealize.ShloMosaic.Tactic

/-- An array of extended reals. -/
abbrev Arr {n : ℕ} (d : Fin n → ℕ) : Type := (⟨n, d⟩ : Shape).Idx → EReal

/-- The row at which direction `d` reads position `l` of its chunk `c`. -/
def nat (d : Fin 2) (c : Fin 32) (l : Fin 128) : Fin 4096 :=
  if d = 0 then ⟨128 * c.val + l.val, by omega⟩ else ⟨4095 - (128 * c.val + l.val), by omega⟩

/-- The block of rows that chunk `c` of direction `d` lies in. -/
def blk (d : Fin 2) (c : Fin 32) : Fin 32 := if d = 0 then c else ⟨31 - c.val, by omega⟩

/-- Head group `g`'s column of head `r`, channel `p`. -/
def hp (r : Fin 8) (p : Fin 64) : Fin 512 := ⟨64 * r.val + p.val, by omega⟩

/-- Column `j` of head group `g` among the columns of the inputs. -/
def xcol (g : Fin 8) (j : Fin 512) : Fin 4096 := ⟨512 * g.val + j.val, by omega⟩

/-- Column `n` of head group `g` among the columns of a projection. -/
def ncol (g : Fin 8) (n : Fin 128) : Fin 1024 := ⟨128 * g.val + n.val, by omega⟩

/-- The column of direction `d`, group `g`, head `r` among the step sizes. -/
def hcol (d : Fin 2) (g r : Fin 8) : Fin 128 := ⟨64 * d.val + 8 * g.val + r.val, by omega⟩

/-- The logarithms of the decays, in the order of the scan. -/
def logDecay (a1 : Arr ![4096, 128]) (a2 : Arr ![2, 8, 8]) : Arr ![2, 32, 128, 8, 8] :=
  fun i => a1 (ix2 (nat (i 0) (i 1) (i 2)) (hcol (i 0) (i 3) (i 4))) * a2 (ix3 (i 0) (i 3) (i 4))

/-- The facts under which the sums below are defined. -/
abbrev SumsOk : Prop := (⟨5, ![2, 32, 128, 8, 8]⟩ : Shape).ReduceWindows (![1, 1, 128, 1, 1] : Fin 5 → Nat) ![1, 1, 1, 1, 1]
  ![0, 0, 127, 0, 0] ![0, 0, 0, 0, 0] ⟨5, ![2, 32, 128, 8, 8]⟩

/-- The cumulative sums within each chunk. -/
def sums (h : SumsOk) (h0 : 0 < (⟨0, ![]⟩ : Shape).numel) (x : Arr ![2, 32, 128, 8, 8]) : Arr ![2, 32, 128, 8, 8] :=
  Host.reduceWindowAdd (F := Ideal) (φ := .f32) ![1, 1, 128, 1, 1] ![1, 1, 1, 1, 1] ![0, 0, 127, 0, 0] ![0, 0, 0, 0, 0] x
    (constant ⟨0, ![]⟩ .f32 0x00000000#32) h h0

/-- What chunk `c` of head group `g` reads in direction `d`. -/
def chunkOf (a0 : Arr ![4096, 6144]) (a1 : Arr ![4096, 128]) (cs : Arr ![2, 32, 128, 8, 8]) (a3 : Arr ![2, 32, 8, 128, 512])
    (a5 : Arr ![4096, 4096]) (d : Fin 2) (g : Fin 8) (c : Fin 32) : Chunk where
  X l r p := a0 (ix2 (nat d c l) ⟨(xcol g (hp r p)).val, by have := (xcol g (hp r p)).isLt; omega⟩)
  Y l r p := a5 (ix2 (nat d c l) (xcol g (hp r p)))
  B l n := a0 (ix2 (nat d c l) ⟨4096 + (ncol g n).val, by have := (ncol g n).isLt; omega⟩)
  C l n := a0 (ix2 (nat d c l) ⟨5120 + (ncol g n).val, by have := (ncol g n).isLt; omega⟩)
  D l r := a1 (ix2 (nat d c l) (hcol d g r))
  S l r := cs (ix5 d c l g r)
  P r p n := a3 (ix5 d (blk d c) g n (hp r p))

/-- Every row is read once in each direction. -/
theorem exists_nat (d : Fin 2) (i : Fin 4096) : ∃ c l, i = nat d c l := by
  by_cases h : d = 0
  · refine ⟨⟨i.val / 128, by omega⟩, ⟨i.val % 128, by omega⟩, ?_⟩
    apply Fin.ext
    simp only [nat, if_pos h]
    omega
  · refine ⟨⟨(4095 - i.val) / 128, by omega⟩, ⟨(4095 - i.val) % 128, by omega⟩, ?_⟩
    apply Fin.ext
    simp only [nat, if_neg h]
    omega

theorem exists_xcol (j : Fin 4096) : ∃ g r p, j = xcol g (hp r p) :=
  ⟨⟨j.val / 512, by omega⟩, ⟨j.val % 512 / 64, by omega⟩, ⟨j.val % 64, by omega⟩, by
    apply Fin.ext
    simp only [xcol, hp]
    omega⟩

theorem exists_ncol (j : Fin 1024) : ∃ g n, j = ncol g n :=
  ⟨⟨j.val / 128, by omega⟩, ⟨j.val % 128, by omega⟩, by
    apply Fin.ext
    simp only [ncol]
    omega⟩

/-- Two reads at equal places are equal. -/
theorem at2 {n0 n1 : ℕ} (f : Arr ![n0, n1]) {a a' : Fin n0} {b b' : Fin n1} (ha : a = a') (hb : b.val = b'.val) :
    f (ix2 a b) = f (ix2 a' b') := by rw [ha, Fin.ext hb]

end Ssd

end
-- ==== Proof.Entry.lean ====
/- What the kernel's host lines leave in the three arrays the call reads beside the arguments: the step sizes and
   the cumulative sums of the decays, by direction, head group, row and head, the sums in two layouts. -/
module

public import proofs.«01_k».proof.Proof.Gen.KernelIdeal.Frame
public import proofs.«01_k».proof.Proof.Args
public import Idealize.ShloMosaic.Lib.Pipeline.ValueKit
public import Idealize.ShloMosaic.Lib.StableHlo.ReadAt

@[expose] public section

set_option maxRecDepth 16384

noncomputable section

namespace Cert.KernelIdeal.Block

open Idealize.ShloMosaic Idealize.ShloMosaic.Tactic Idealize.ShloMosaic.TcCoe Cert.KernelIdeal Cert.KernelIdeal.Gen

variable (m : (ℓ : Loc nD τ sig) → Buf (Elt Ideal) ℓ) (c : Dev nD)

/-- The two directions, one upon the other. -/
def stack (a b : S1x4096x8x8.Idx → EReal) : S2x4096x8x8.Idx → EReal :=
  concatenate S2x4096x8x8 0 [⟨S1x4096x8x8, a⟩, ⟨S1x4096x8x8, b⟩] concatenates_S1x4096x8x8_S1x4096x8x8_S2x4096x8x8_d0

theorem stack_def : (fun a b : S1x4096x8x8.Idx → EReal =>
    concatenate S2x4096x8x8 0 [⟨S1x4096x8x8, a⟩, ⟨S1x4096x8x8, b⟩] concatenates_S1x4096x8x8_S1x4096x8x8_S2x4096x8x8_d0) = stack := rfl

theorem stack_at (a b : S1x4096x8x8.Idx → EReal) (d : Fin 2) (l : Fin 4096) (g r : Fin 8) :
    stack a b (ix4 d l g r) = if d = 0 then a (ix4 0 l g r) else b (ix4 0 l g r) := by
  fin_cases d
  · pointwise [stack]
  · pointwise [stack]

theorem reverse_at (x : S1x4096x8x8.Idx → EReal) (l : Fin 4096) (g r : Fin 8) :
    Host.reverse [1] x (ix4 0 l g r) = x (ix4 0 l.rev g r) := by
  pointwise
  rfl

theorem entry_dt (d : Fin 2) (g : Fin 8) (l : Fin 4096) (r : Fin 8) :
    (V m c main_v19 : Ssd.Arr ![2, 8, 4096, 8]) (ix4 d g l r) = (V m c main_arg1 : Ssd.Arr ![4096, 128]) (ix2 l (Ssd.hcol d g r)) := by
  simp only [V, hostOps0, hostOps0_1, hostOps0_2, hostOps0_3, hostOps0_4, hostOps0_5, hostOps0_6, List.flatten_cons, List.flatten_nil,
    List.append_nil, List.cons_append, List.nil_append, stack_def]
  after_reads_at
  refine congrArg (fun j => m (c, Proc.tc.devRef main_arg1) (ix2 l j)) (Fin.ext ?_)
  show d.val * 64 + g.val * 8 + r.val = 64 * d.val + 8 * g.val + r.val
  omega

set_option maxHeartbeats 2000000 in
theorem entry_col (d : Fin 2) (g : Fin 8) (k : Fin 32) (l : Fin 128) (r : Fin 8) :
    (V m c main_v20 : Ssd.Arr ![2, 8, 4096, 8]) (ix4 d g (Ssd.nat d k l) r) = (V m c main_v11 : Ssd.Arr ![2, 32, 128, 8, 8]) (ix5 d k l g r) := by
  simp only [V, hostOps0, hostOps0_1, hostOps0_2, hostOps0_3, hostOps0_4, hostOps0_5, hostOps0_6, List.flatten_cons, List.flatten_nil,
    List.append_nil, List.cons_append, List.nil_append, stack_def]
  after_reads_at
  rw [stack_at]
  by_cases hd : d = 0
  · subst hd
    rw [if_pos rfl]
    pointwise
    refine congrArg (Host.reduceWindowAdd _ _ _ _ _ _ _ _) ?_
    have e : (Ssd.nat 0 k l).val = 128 * k.val + l.val := rfl
    refine congrArg₂ (fun a b => ix5 0 a b g r) (Fin.ext ?_) (Fin.ext ?_) <;> simp only [e] <;> omega
  · obtain rfl : d = 1 := by omega
    rw [if_neg (by decide), reverse_at]
    pointwise
    refine congrArg (Host.reduceWindowAdd _ _ _ _ _ _ _ _) ?_
    have e : (Ssd.nat 1 k l).val = 4095 - (128 * k.val + l.val) := rfl
    refine congrArg₂ (fun a b => ix5 1 a b g r) (Fin.ext ?_) (Fin.ext ?_) <;> simp only [Fin.val_rev, e] <;> omega

theorem entry_row (d : Fin 2) (g : Fin 8) (l : Fin 4096) (r : Fin 8) :
    (V m c main_v21 : Ssd.Arr ![2, 8, 8, 4096]) (ix4 d g r l) = (V m c main_v20 : Ssd.Arr ![2, 8, 4096, 8]) (ix4 d g l r) := by
  simp only [V, hostOps0, hostOps0_1, hostOps0_2, hostOps0_3, hostOps0_4, hostOps0_5, hostOps0_6, List.flatten_cons, List.flatten_nil,
    List.append_nil, List.cons_append, List.nil_append, stack_def]
  after_reads_at

theorem mul_at (f : Ssd.Arr ![4096, 128]) (z : EReal) {a a' : Fin 4096} {b b' : Fin 128} (ha : a.val = a'.val) (hb : b.val = b'.val) :
    f (ix2 a b) * z = f (ix2 a' b') * z := by
  rw [Fin.ext ha, Fin.ext hb]

set_option maxHeartbeats 2000000 in
theorem entry_log_at (d : Fin 2) (k : Fin 32) (l : Fin 128) (g r : Fin 8) : (V m c main_v10 : Ssd.Arr ![2, 32, 128, 8, 8]) (ix5 d k l g r)
    = Ssd.logDecay (V m c main_arg1 : Ssd.Arr ![4096, 128]) (V m c main_arg2 : Ssd.Arr ![2, 8, 8]) (ix5 d k l g r) := by
  unfold Ssd.logDecay
  simp only [V, hostOps0, hostOps0_1, hostOps0_2, hostOps0_3, hostOps0_4, hostOps0_5, hostOps0_6, List.flatten_cons, List.flatten_nil,
    List.append_nil, List.cons_append, List.nil_append, stack_def]
  after_reads_at
  rw [stack_at]
  by_cases hd : d = 0
  · subst hd
    rw [if_pos rfl]
    pointwise
    refine mul_at _ _ ?_ ?_
    · rw [show (Ssd.nat 0 k l).val = 128 * k.val + l.val from rfl]
      dsimp only
      omega
    · simp only [Ssd.hcol, Fin.val_zero]
      omega
  · obtain rfl : d = 1 := by omega
    rw [if_neg (by decide), reverse_at]
    pointwise
    refine mul_at _ _ ?_ ?_
    · rw [show (Ssd.nat 1 k l).val = 4095 - (128 * k.val + l.val) from rfl, Fin.val_rev]
      dsimp only
      omega
    · simp only [Ssd.hcol, Fin.val_one]
      omega

set_option maxHeartbeats 1000000 in
theorem entry_log : (V m c main_v10 : Ssd.Arr ![2, 32, 128, 8, 8])
    = Ssd.logDecay (V m c main_arg1 : Ssd.Arr ![4096, 128]) (V m c main_arg2 : Ssd.Arr ![2, 8, 8]) := by
  funext i
  rw [← ix5_eta i]
  exact entry_log_at m c _ _ _ _ _

theorem entry_sums : (V m c main_v11 : Ssd.Arr ![2, 32, 128, 8, 8])
    = Ssd.sums reduceWindows_S2x32x128x8x8_S2x32x128x8x8_w1s1p0_0_w1s1p0_0_w128s1p127_0_w1s1p0_0_w1s1p0_0 h_S_ (V m c main_v10) := by
  simp only [V, hostOps0, hostOps0_1, hostOps0_2, hostOps0_3, hostOps0_4, hostOps0_5, hostOps0_6, List.flatten_cons, List.flatten_nil,
    List.append_nil, List.cons_append, List.nil_append, stack_def]
  after_reads_simp
  simp -implicitDefEqProofs only [StableHlo.TRef.toBuf, StableHlo.TRef.ofBuf, cast_cast, cast_eq]
  rfl

end Cert.KernelIdeal.Block

end
-- ==== Proof.Values.lean ====
/- What the kernel's points load, in terms of the arrays, and what its results hold.

   Point `t` works in direction `t / 128` on the head groups `2 q₀` and `2 q₀ + 1`, `q₀ = t / 32 % 4`, on the chunk of
   the scan that comes `t % 32` steps before the last.  Its rows lie in memory in the scan's order in the first direction
   and in the opposite order in the second. -/
module

public import proofs.«01_k».proof.Proof.Points
public import proofs.«01_k».proof.Proof.Entry
public import proofs.«01_k».proof.Proof.Gen.KernelIdeal.Value

@[expose] public section

set_option maxRecDepth 16384

noncomputable section

namespace Cert.KernelIdeal.Block

open Idealize.ShloMosaic Idealize.ShloMosaic.Tactic Idealize.ShloMosaic.TcCoe Cert.KernelIdeal Cert.KernelIdeal.Gen

/-! ## The grid -/

/-- The point of a direction, a pair of head groups and a step. -/
def pt (d : Fin 2) (q₀ : Fin 4) (k : Fin 32) : Fin cfg0.N := ⟨128 * d.val + 32 * q₀.val + k.val, lt_of_lt_of_eq (b := 256) (by omega) (by decide)⟩

/-- The block of rows a point works on. -/
def rows (d : Fin 2) (k : Fin 32) : Fin 32 := Ssd.blk d (Ssd.chunkAt k.val)

/-- Head group `q` of the pair `q₀`. -/
def grp (q₀ : Fin 4) (q : Fin 2) : Fin 8 := ⟨2 * q₀.val + q.val, by omega⟩

theorem coords_pt : ∀ d q₀ k, (grid0.coords (pt d q₀ k) 0).val = d.val := by decide +kernel

theorem idx0 : ∀ d q₀ k, win0_0.index (pt d q₀ k) = ![(rows d k).val, q₀.val] := by decide +kernel
theorem idx1 : ∀ d q₀ k, win0_1.index (pt d q₀ k) = ![(rows d k).val, q₀.val + 16] := by decide +kernel
theorem idx2 : ∀ d q₀ k, win0_2.index (pt d q₀ k) = ![(rows d k).val, q₀.val + 20] := by decide +kernel
theorem idx3 : ∀ d q₀ k, win0_3.index (pt d q₀ k) = ![d.val, q₀.val, (rows d k).val, 0] := by decide +kernel
theorem idx4 : ∀ d q₀ k, win0_4.index (pt d q₀ k) = ![d.val, q₀.val, (rows d k).val, 0] := by decide +kernel
theorem idx5 : ∀ d q₀ k, win0_5.index (pt d q₀ k) = ![d.val, q₀.val, 0, (rows d k).val] := by decide +kernel
theorem idx6 : ∀ d q₀ k, win0_6.index (pt d q₀ k) = ![d.val, (rows d k).val, q₀.val, 0, 0] := by decide +kernel
theorem idx8 : ∀ d q₀ k, win0_8.index (pt d q₀ k) = ![(rows d k).val, q₀.val] := by decide +kernel
theorem idx9 : ∀ d q₀ k, win0_9.index (pt d q₀ k) = ![d.val, (rows d k).val, q₀.val] := by decide +kernel
theorem idx10 : ∀ d q₀ k, win0_10.index (pt d q₀ k) = ![d.val, (rows d k).val, q₀.val] := by decide +kernel
theorem idx11 : ∀ d q₀ k, win0_11.index (pt d q₀ k) = ![d.val, (rows d k).val, q₀.val] := by decide +kernel
theorem idx14 : ∀ d q₀ k, win0_14.index (pt d q₀ k) = ![d.val, q₀.val, (rows d k).val, 0] := by decide +kernel

/-! ## What a point loads -/

variable (m : (ℓ : Loc nD τ sig) → Buf (Elt Ideal) ℓ) (c : Dev nD) (d : Fin 2) (q₀ : Fin 4) (k : Fin 32)

/-- Row `l` of the block a point works on. -/
def row (l : Fin 128) : Fin 4096 := ⟨128 * (rows d k).val + l.val, by omega⟩

theorem blk0 (y : S128x1024.Idx) : iblk m c 0 (pt d q₀ k) y
    = (V m c main_arg0 : Ssd.Arr ![4096, 6144]) (ix2 (row d k (y 0)) ⟨1024 * q₀.val + (y 1).val, by have : (y 1).val < 1024 := (y 1).isLt; omega⟩) := by
  blk_simp [iblk]
  refine congrArg _ ?_
  blk_ext [idx0, row]

theorem blk1 (y : S128x256.Idx) : iblk m c 1 (pt d q₀ k) y
    = (V m c main_arg0 : Ssd.Arr ![4096, 6144]) (ix2 (row d k (y 0)) ⟨256 * q₀.val + 4096 + (y 1).val, by have : (y 1).val < 256 := (y 1).isLt; omega⟩) := by
  blk_simp [iblk]
  refine congrArg _ ?_
  blk_ext [idx1, row]

theorem blk2 (y : S128x256.Idx) : iblk m c 2 (pt d q₀ k) y
    = (V m c main_arg0 : Ssd.Arr ![4096, 6144]) (ix2 (row d k (y 0)) ⟨256 * q₀.val + 5120 + (y 1).val, by have : (y 1).val < 256 := (y 1).isLt; omega⟩) := by
  blk_simp [iblk]
  refine congrArg _ ?_
  blk_ext [idx2, row]

theorem blk3 (y : S1x2x128x8.Idx) : iblk m c 3 (pt d q₀ k) y
    = (V m c main_v19 : Ssd.Arr ![2, 8, 4096, 8]) (ix4 d (grp q₀ (y 1)) (row d k (y 2)) (y 3)) := by
  blk_simp [iblk]
  refine congrArg _ ?_
  blk_ext [idx3, row, grp]

theorem blk4 (y : S1x2x128x8.Idx) : iblk m c 4 (pt d q₀ k) y
    = (V m c main_v20 : Ssd.Arr ![2, 8, 4096, 8]) (ix4 d (grp q₀ (y 1)) (row d k (y 2)) (y 3)) := by
  blk_simp [iblk]
  refine congrArg _ ?_
  blk_ext [idx4, row, grp]

theorem blk5 (y : S1x2x8x128.Idx) : iblk m c 5 (pt d q₀ k) y
    = (V m c main_v21 : Ssd.Arr ![2, 8, 8, 4096]) (ix4 d (grp q₀ (y 1)) (y 2) (row d k (y 3))) := by
  blk_simp [iblk]
  refine congrArg _ ?_
  blk_ext [idx5, row, grp]

theorem blk6 (y : S1x1x2x128x512.Idx) : iblk m c 6 (pt d q₀ k) y
    = (V m c main_arg3 : Ssd.Arr ![2, 32, 8, 128, 512]) (ix5 d (rows d k) (grp q₀ (y 2)) (y 3) (y 4)) := by
  blk_simp [iblk]
  refine congrArg _ ?_
  blk_ext [idx6, grp]

theorem blk8 (y : S128x1024.Idx) : iblk m c 8 (pt d q₀ k) y
    = (V m c main_arg5 : Ssd.Arr ![4096, 4096]) (ix2 (row d k (y 0)) ⟨1024 * q₀.val + (y 1).val, by have : (y 1).val < 1024 := (y 1).isLt; omega⟩) := by
  blk_simp [iblk]
  refine congrArg _ ?_
  blk_ext [idx8, row]

/-- How the rows of a block lie in the order of the scan. -/
def order (d : Fin 2) : Fin 128 ≃ Fin 128 := if d = 0 then Equiv.refl _ else Fin.revPerm

theorem row_eq (l : Fin 128) : row d k l = Ssd.nat d (Ssd.chunkAt k.val) (order d l) := by
  apply Fin.ext
  fin_cases d
  · show 128 * (31 - k.val % 32) + l.val = 128 * (31 - k.val % 32) + l.val
    rfl
  · show 128 * (31 - (31 - k.val % 32)) + l.val = 4095 - (128 * (31 - k.val % 32) + (Fin.rev l).val)
    rw [Fin.val_rev]
    omega

theorem row_of {x l : Fin 128} (h : x.val = l.val) : row d k x = Ssd.nat d (Ssd.chunkAt k.val) (order d l) := by
  rw [← row_eq, Fin.ext h]

theorem ord_eq : ord d = fun a b => Ssd.fwd (order d a) (order d b) := by
  fin_cases d
  · rfl
  · exact Ssd.bwd_eq

theorem order_last : order d (last d) = 127 := by
  fin_cases d <;> decide

/-- The chunks of head group `g` in direction `d`. -/
def chunks (g : Fin 8) (i : Fin 32) : Ssd.Chunk :=
  Ssd.chunkOf (V m c main_arg0 : Ssd.Arr ![4096, 6144]) (V m c main_arg1 : Ssd.Arr ![4096, 128]) (V m c main_v11 : Ssd.Arr ![2, 32, 128, 8, 8])
    (V m c main_arg3 : Ssd.Arr ![2, 32, 8, 128, 512]) (V m c main_arg5 : Ssd.Arr ![4096, 4096]) d g i

theorem at4 {n0 n1 n2 n3 : ℕ} (f : Ssd.Arr ![n0, n1, n2, n3]) {a : Fin n0} {b b' : Fin n1} {e e' : Fin n2} {g g' : Fin n3}
    (hb : b = b') (he : e = e') (hg : g = g') : f (ix4 a b e g) = f (ix4 a b' e' g') := by rw [hb, he, hg]

/-- A one-axis coordinate of a unit-stride load at offset `o`. -/
theorem off_eq {n : ℕ} {x y : Fin n} (h : x.val = 0 + 1 * y.val) : x = y := Fin.ext (by omega)

set_option maxHeartbeats 4000000 in
/-- A point loads the chunk of its head group and step, in the order of its rows. -/
theorem chunk_at (q : Fin 2) : (loadsAt m c (pt d q₀ k) q).chunk = (chunks m c d (grp q₀ q) (Ssd.chunkAt k.val)).perm (order d) := by
  revert q
  refine Fin.forall_fin_two.mpr ⟨?_, ?_⟩ <;> apply Ssd.Chunk.ext
  · funext l r p
    refine (blk0 m c d q₀ k _).trans (Ssd.at2 _ (row_of d k (l := l) (by show 0 + 1 * l.val = l.val; omega)) ?_)
    show 1024 * q₀.val + (0 + 1 * (64 * r.val + p.val)) = 512 * (2 * q₀.val + 0) + (64 * r.val + p.val)
    omega
  · funext l r p
    refine (blk8 m c d q₀ k _).trans (Ssd.at2 _ (row_of d k (l := l) (by show 0 + 1 * l.val = l.val; omega)) ?_)
    show 1024 * q₀.val + (0 + 1 * (64 * r.val + p.val)) = 512 * (2 * q₀.val + 0) + (64 * r.val + p.val)
    omega
  · funext l n
    refine (blk1 m c d q₀ k _).trans (Ssd.at2 _ (row_of d k (l := l) (by show 0 + 1 * l.val = l.val; omega)) ?_)
    show 256 * q₀.val + 4096 + (0 + 1 * n.val) = 4096 + (128 * (2 * q₀.val + 0) + n.val)
    omega
  · funext l n
    refine (blk2 m c d q₀ k _).trans (Ssd.at2 _ (row_of d k (l := l) (by show 0 + 1 * l.val = l.val; omega)) ?_)
    show 256 * q₀.val + 5120 + (0 + 1 * n.val) = 5120 + (128 * (2 * q₀.val + 0) + n.val)
    omega
  · funext l r
    refine (blk3 m c d q₀ k _).trans ((at4 _ (b' := grp q₀ 0) rfl (row_of d k (l := l) (by show 0 + 1 * l.val = l.val; omega)) (off_eq (y := r) rfl)).trans ?_)
    exact entry_dt m c d _ _ r
  · funext l r
    refine (blk4 m c d q₀ k _).trans ((at4 _ (b' := grp q₀ 0) rfl (row_of d k (l := l) (by show 0 + 1 * l.val = l.val; omega)) (off_eq (y := r) rfl)).trans ?_)
    exact entry_col m c d _ _ _ r
  · funext r p n
    refine (blk6 m c d q₀ k _).trans (congrArg₂ (fun a b => (V m c main_arg3 : Ssd.Arr ![2, 32, 8, 128, 512]) (ix5 d (rows d k) (grp q₀ 0) a b)) ?_ ?_)
    · exact off_eq rfl
    · exact off_eq rfl
  · funext l r p
    refine (blk0 m c d q₀ k _).trans (Ssd.at2 _ (row_of d k (l := l) (by show 0 + 1 * l.val = l.val; omega)) ?_)
    show 1024 * q₀.val + (512 + 1 * (64 * r.val + p.val)) = 512 * (2 * q₀.val + 1) + (64 * r.val + p.val)
    omega
  · funext l r p
    refine (blk8 m c d q₀ k _).trans (Ssd.at2 _ (row_of d k (l := l) (by show 0 + 1 * l.val = l.val; omega)) ?_)
    show 1024 * q₀.val + (512 + 1 * (64 * r.val + p.val)) = 512 * (2 * q₀.val + 1) + (64 * r.val + p.val)
    omega
  · funext l n
    refine (blk1 m c d q₀ k _).trans (Ssd.at2 _ (row_of d k (l := l) (by show 0 + 1 * l.val = l.val; omega)) ?_)
    show 256 * q₀.val + 4096 + (128 + 1 * n.val) = 4096 + (128 * (2 * q₀.val + 1) + n.val)
    omega
  · funext l n
    refine (blk2 m c d q₀ k _).trans (Ssd.at2 _ (row_of d k (l := l) (by show 0 + 1 * l.val = l.val; omega)) ?_)
    show 256 * q₀.val + 5120 + (128 + 1 * n.val) = 5120 + (128 * (2 * q₀.val + 1) + n.val)
    omega
  · funext l r
    refine (blk3 m c d q₀ k _).trans ((at4 _ (b' := grp q₀ 1) rfl (row_of d k (l := l) (by show 0 + 1 * l.val = l.val; omega)) (off_eq (y := r) rfl)).trans ?_)
    exact entry_dt m c d _ _ r
  · funext l r
    refine (blk4 m c d q₀ k _).trans ((at4 _ (b' := grp q₀ 1) rfl (row_of d k (l := l) (by show 0 + 1 * l.val = l.val; omega)) (off_eq (y := r) rfl)).trans ?_)
    exact entry_col m c d _ _ _ r
  · funext r p n
    refine (blk6 m c d q₀ k _).trans (congrArg₂ (fun a b => (V m c main_arg3 : Ssd.Arr ![2, 32, 8, 128, 512]) (ix5 d (rows d k) (grp q₀ 1) a b)) ?_ ?_)
    · exact off_eq rfl
    · exact off_eq rfl

end Cert.KernelIdeal.Block

end
-- ==== Proof.Arrays.lean ====
/- What the kernel's results hold after the run, index by index: the gradients of the chunk that a row belongs to. -/
module

public import proofs.«01_k».proof.Proof.Values

@[expose] public section

set_option maxRecDepth 16384

noncomputable section

namespace Cert.KernelIdeal.Block

open Idealize.ShloMosaic Idealize.ShloMosaic.Tactic Idealize.ShloMosaic.TcCoe Cert.KernelIdeal Cert.KernelIdeal.Gen

variable (m : (ℓ : Loc nD τ sig) → Buf (Elt Ideal) ℓ) (c : Dev nD) (d : Fin 2) (q₀ : Fin 4) (k : Fin 32)

/-! ## A point -/

theorem dir_at (q : Fin 2) : (loadsAt m c (pt d q₀ k) q).d = d := by
  revert q
  refine Fin.forall_fin_two.mpr ⟨Fin.ext (coords_pt d q₀ k), Fin.ext (coords_pt d q₀ k)⟩

theorem at4v {n0 n1 n2 n3 : ℕ} (f : Ssd.Arr ![n0, n1, n2, n3]) {a a' : Fin n0} {b b' : Fin n1} {e e' : Fin n2} {g g' : Fin n3}
    (ha : a.val = a'.val) (hb : b.val = b'.val) (he : e.val = e'.val) (hg : g.val = g'.val) : f (ix4 a b e g) = f (ix4 a' b' e' g') := by
  rw [Fin.ext ha, Fin.ext hb, Fin.ext he, Fin.ext hg]

/-- The block of columns and the block of rows hold the same sums. -/
theorem row_col (q : Fin 2) (l : Fin 128) (j : Fin 8) :
    iblk m c 5 (pt d q₀ k) (ix4 0 q j l) = iblk m c 4 (pt d q₀ k) (ix4 0 q l j) := by
  refine (blk5 m c d q₀ k _).trans (Eq.trans ?_ (blk4 m c d q₀ k _).symm)
  exact entry_row m c d _ _ _

set_option maxHeartbeats 2000000 in
theorem ok_at (q : Fin 2) : (loadsAt m c (pt d q₀ k) q).Ok := by
  revert q
  refine Fin.forall_fin_two.mpr ⟨⟨fun j l => ?_, fun j l => ?_⟩, ⟨fun j l => ?_, fun j l => ?_⟩⟩
  · refine (congrFun (colLoad_eq _ _ 0 j) _).trans ?_
    exact congrArg (iblk m c 4 (pt d q₀ k)) (by funext a; apply Fin.ext; fin_cases a <;> simp [ix4, Rect.unit, LoadRect.idx_apply, Rect.toLoadRect] <;> rfl)
  · refine (congrFun (rowLoad_eq _ _ 0 j) _).trans ((row_col m c d q₀ k 0 l j).trans ?_)
    exact congrArg (iblk m c 4 (pt d q₀ k)) (by funext a; apply Fin.ext; fin_cases a <;> simp [ix4, Rect.unit, LoadRect.idx_apply, Rect.toLoadRect] <;> rfl)
  · refine (congrFun (colLoad_eq _ _ 1 j) _).trans ?_
    exact congrArg (iblk m c 4 (pt d q₀ k)) (by funext a; apply Fin.ext; fin_cases a <;> simp [ix4, Rect.unit, LoadRect.idx_apply, Rect.toLoadRect] <;> rfl)
  · refine (congrFun (rowLoad_eq _ _ 1 j) _).trans ((row_col m c d q₀ k 1 l j).trans ?_)
    exact congrArg (iblk m c 4 (pt d q₀ k)) (by funext a; apply Fin.ext; fin_cases a <;> simp [ix4, Rect.unit, LoadRect.idx_apply, Rect.toLoadRect] <;> rfl)

theorem state_at (q : Fin 2) (r : Fin 8) (p : Fin 64) (n : Fin 128) :
    (loadsAt m c (pt d q₀ k) q).state r p n = carriedIn m c (pt d q₀ k) (ix3 q n (cl r p)) := by
  revert q
  refine Fin.forall_fin_two.mpr ⟨?_, ?_⟩
  · exact congrArg (carriedIn m c (pt d q₀ k)) (by funext a; apply Fin.ext; fin_cases a <;> simp [ix3, Rect.unit, LoadRect.idx_apply, Rect.toLoadRect])
  · exact congrArg (carriedIn m c (pt d q₀ k)) (by funext a; apply Fin.ext; fin_cases a <;> simp [ix3, Rect.unit, LoadRect.idx_apply, Rect.toLoadRect])

theorem outsAt0_congr {n n' : ℕ} (h : n = n') (hn : n < cfg0.N) (hn' : n' < cfg0.N) : outsAt0 m c n hn = outsAt0 m c n' hn' := by
  subst h
  rfl

/-- A point finds in the scratch the gradient of the state after its chunk. -/
theorem carried_at (q : Fin 2) (r : Fin 8) (p : Fin 64) (n : Fin 128) :
    carriedIn m c (pt d q₀ k) (ix3 q n (cl r p)) = Ssd.carry (chunks m c d (grp q₀ q)) k.val r p n := by
  obtain ⟨k, hk⟩ := k
  induction k generalizing r p n with
  | zero =>
    have h0 : (pt d q₀ ⟨0, hk⟩).val % 32 = 0 := by
      show (128 * d.val + 32 * q₀.val + 0) % 32 = 0
      omega
    unfold carriedIn
    rw [if_pos h0]
    pointwise [k0_pay3]
    rfl
  | succ j ih =>
    have hj : j < 32 := Nat.lt_of_succ_lt hk
    have h0 : ¬ (pt d q₀ ⟨j + 1, hk⟩).val % 32 = 0 := by
      show ¬ (128 * d.val + 32 * q₀.val + (j + 1)) % 32 = 0
      omega
    have e : (pt d q₀ ⟨j + 1, hk⟩).val - 1 = (pt d q₀ ⟨j, hj⟩).val := by
      show 128 * d.val + 32 * q₀.val + (j + 1) - 1 = 128 * d.val + 32 * q₀.val + j
      omega
    unfold carriedIn
    rw [if_neg h0, outsAt0_congr m c e _ (pt d q₀ ⟨j, hj⟩).isLt]
    obtain ⟨o9, o10, o11, o14, s0, hs, -, -, -, -, es⟩ := stored_at m c (pt d q₀ ⟨j, hj⟩)
    rw [es, hs.next, chunk_at, dir_at, Ssd.Chunk.next_perm, order_last]
    have hst : (loadsAt m c (pt d q₀ ⟨j, hj⟩) q).state = Ssd.carry (chunks m c d (grp q₀ q)) j := by
      funext r p n
      rw [state_at, ih r p n hj]
    rw [hst]
    rfl

theorem state_eq (q : Fin 2) : (loadsAt m c (pt d q₀ k) q).state = Ssd.carry (chunks m c d (grp q₀ q)) k.val := by
  funext r p n
  rw [state_at, carried_at]

section
variable (q : Fin 2) (s n : Fin 128) (r : Fin 8) (p : Fin 64)

theorem outs_dX : (outsAt0 m c (pt d q₀ k).val (pt d q₀ k).isLt).1 (ix3 0 s (cw q r p))
    = (chunks m c d (grp q₀ q) (Ssd.chunkAt k.val)).dX Ssd.fwd 127 (Ssd.carry (chunks m c d (grp q₀ q)) k.val) (order d s) r p := by
  obtain ⟨o9, o10, o11, o14, s0, hs, e, -, -, -, -⟩ := stored_at m c (pt d q₀ k)
  rw [e, hs.dX (ok_at m c d q₀ k), chunk_at, dir_at, state_eq, ord_eq, Ssd.Chunk.dX_perm, order_last]

theorem outs_dB : (outsAt0 m c (pt d q₀ k).val (pt d q₀ k).isLt).2.1 (ix3 0 s (cb q n))
    = (chunks m c d (grp q₀ q) (Ssd.chunkAt k.val)).dB Ssd.fwd 127 (Ssd.carry (chunks m c d (grp q₀ q)) k.val) (order d s) n := by
  obtain ⟨o9, o10, o11, o14, s0, hs, -, e, -, -, -⟩ := stored_at m c (pt d q₀ k)
  rw [e, hs.dB (ok_at m c d q₀ k), chunk_at, dir_at, state_eq, ord_eq, Ssd.Chunk.dB_perm, order_last]

theorem outs_dC : (outsAt0 m c (pt d q₀ k).val (pt d q₀ k).isLt).2.2.1 (ix3 0 s (cb q n))
    = (chunks m c d (grp q₀ q) (Ssd.chunkAt k.val)).dC Ssd.fwd (order d s) n := by
  obtain ⟨o9, o10, o11, o14, s0, hs, -, -, e, -, -⟩ := stored_at m c (pt d q₀ k)
  rw [e, hs.dC (ok_at m c d q₀ k), chunk_at, dir_at, ord_eq, Ssd.Chunk.dC_perm]

theorem outs_dStep : (outsAt0 m c (pt d q₀ k).val (pt d q₀ k).isLt).2.2.2.2.2.1 (ix4 0 q s r)
    = (chunks m c d (grp q₀ q) (Ssd.chunkAt k.val)).dStep Ssd.fwd 127 (Ssd.carry (chunks m c d (grp q₀ q)) k.val) (order d s) r := by
  obtain ⟨o9, o10, o11, o14, s0, hs, -, -, -, e, -⟩ := stored_at m c (pt d q₀ k)
  rw [e, hs.dStep (ok_at m c d q₀ k), chunk_at, dir_at, state_eq, ord_eq, Ssd.Chunk.dStep_perm, order_last]

end

/-! ## The arrays -/

theorem exists_pt (t : Fin cfg0.N) : ∃ d q₀ k, t = pt d q₀ k := by
  have ht : t.val < 256 := lt_of_lt_of_eq t.isLt (by decide)
  exact ⟨⟨t.val / 128, by omega⟩, ⟨t.val / 32 % 4, by omega⟩, ⟨t.val % 32, by omega⟩, Fin.ext (by
    show t.val = 128 * (t.val / 128) + 32 * (t.val / 32 % 4) + t.val % 32
    omega)⟩

theorem rows_inj {d : Fin 2} {k k' : Fin 32} (h : (rows d k).val = (rows d k').val) : k = k' := by
  revert d k k'
  decide +kernel

theorem pt_of_rows {d d' : Fin 2} {q₀ q₀' : Fin 4} {k k' : Fin 32} (h0 : d.val = d'.val) (h1 : (rows d k).val = (rows d' k').val)
    (h2 : q₀.val = q₀'.val) : pt d q₀ k = pt d' q₀' k' := by
  obtain rfl := Fin.ext h0
  obtain rfl := Fin.ext h2
  rw [rows_inj h1]

theorem inj9 (t t' : Fin cfg0.N) (h : (cfg0.win 9).index t = (cfg0.win 9).index t') : t = t' := by
  obtain ⟨d, q₀, k, rfl⟩ := exists_pt t
  obtain ⟨d', q₀', k', rfl⟩ := exists_pt t'
  have e : ![d.val, (rows d k).val, q₀.val] = ![d'.val, (rows d' k').val, q₀'.val] := (idx9 d q₀ k).symm.trans (h.trans (idx9 d' q₀' k'))
  exact pt_of_rows (congrFun e 0) (congrFun e 1) (congrFun e 2)

theorem inj10 (t t' : Fin cfg0.N) (h : (cfg0.win 10).index t = (cfg0.win 10).index t') : t = t' := by
  obtain ⟨d, q₀, k, rfl⟩ := exists_pt t
  obtain ⟨d', q₀', k', rfl⟩ := exists_pt t'
  have e : ![d.val, (rows d k).val, q₀.val] = ![d'.val, (rows d' k').val, q₀'.val] := (idx10 d q₀ k).symm.trans (h.trans (idx10 d' q₀' k'))
  exact pt_of_rows (congrFun e 0) (congrFun e 1) (congrFun e 2)

theorem inj11 (t t' : Fin cfg0.N) (h : (cfg0.win 11).index t = (cfg0.win 11).index t') : t = t' := by
  obtain ⟨d, q₀, k, rfl⟩ := exists_pt t
  obtain ⟨d', q₀', k', rfl⟩ := exists_pt t'
  have e : ![d.val, (rows d k).val, q₀.val] = ![d'.val, (rows d' k').val, q₀'.val] := (idx11 d q₀ k).symm.trans (h.trans (idx11 d' q₀' k'))
  exact pt_of_rows (congrFun e 0) (congrFun e 1) (congrFun e 2)

theorem inj14 (t t' : Fin cfg0.N) (h : (cfg0.win 14).index t = (cfg0.win 14).index t') : t = t' := by
  obtain ⟨d, q₀, k, rfl⟩ := exists_pt t
  obtain ⟨d', q₀', k', rfl⟩ := exists_pt t'
  have e : ![d.val, q₀.val, (rows d k).val, 0] = ![d'.val, q₀'.val, (rows d' k').val, 0] := (idx14 d q₀ k).symm.trans (h.trans (idx14 d' q₀' k'))
  exact pt_of_rows (congrFun e 0) (congrFun e 2) (congrFun e 1)

section
variable (q : Fin 2) (s n : Fin 128) (r : Fin 8) (p : Fin 64)

theorem emb9 : ((cfg0.win 9).blk (pt d q₀ k)).view.emb (ix3 0 s (cw q r p) : S1x128x1024.Idx)
    = (ix3 d (row d k s) (Ssd.xcol (grp q₀ q) (Ssd.hp r p)) : S2x4096x4096.Idx) := by
  blk_ext [idx9, row, cw, grp, Ssd.xcol, Ssd.hp]

theorem emb10 : ((cfg0.win 10).blk (pt d q₀ k)).view.emb (ix3 0 s (cb q n) : S1x128x256.Idx)
    = (ix3 d (row d k s) (Ssd.ncol (grp q₀ q) n) : S2x4096x1024.Idx) := by
  blk_ext [idx10, row, cb, grp, Ssd.ncol]

theorem emb11 : ((cfg0.win 11).blk (pt d q₀ k)).view.emb (ix3 0 s (cb q n) : S1x128x256.Idx)
    = (ix3 d (row d k s) (Ssd.ncol (grp q₀ q) n) : S2x4096x1024.Idx) := by
  blk_ext [idx11, row, cb, grp, Ssd.ncol]

theorem emb14 : ((cfg0.win 14).blk (pt d q₀ k)).view.emb (ix4 0 q s r : S1x2x128x8.Idx)
    = (ix4 d (grp q₀ q) (row d k s) r : S2x8x4096x8.Idx) := by
  blk_ext [idx14, row, grp]

theorem arr9 : ((dats m 0 c).arrAt 9 cfg0.N : Ssd.Arr ![2, 4096, 4096]) (ix3 d (row d k s) (Ssd.xcol (grp q₀ q) (Ssd.hp r p)))
    = (outsAt0 m c (pt d q₀ k).val (pt d q₀ k).isLt).1 (ix3 0 s (cw q r p)) := by
  rw [← emb9]
  refine ((dats m 0 c).arrAt_emb_eq_flushed 9 (Pipeline.Window.hdisj_of_index_inj _ fun t t' _ _ => inj9 t t') (pt d q₀ k) (flush0_9 _) _).trans ?_
  rw [Value.flushed9]
  blk_simp
  rfl

theorem arr10 : ((dats m 0 c).arrAt 10 cfg0.N : Ssd.Arr ![2, 4096, 1024]) (ix3 d (row d k s) (Ssd.ncol (grp q₀ q) n))
    = (outsAt0 m c (pt d q₀ k).val (pt d q₀ k).isLt).2.1 (ix3 0 s (cb q n)) := by
  rw [← emb10]
  refine ((dats m 0 c).arrAt_emb_eq_flushed 10 (Pipeline.Window.hdisj_of_index_inj _ fun t t' _ _ => inj10 t t') (pt d q₀ k) (flush0_10 _) _).trans ?_
  rw [Value.flushed10]
  blk_simp
  rfl

theorem arr11 : ((dats m 0 c).arrAt 11 cfg0.N : Ssd.Arr ![2, 4096, 1024]) (ix3 d (row d k s) (Ssd.ncol (grp q₀ q) n))
    = (outsAt0 m c (pt d q₀ k).val (pt d q₀ k).isLt).2.2.1 (ix3 0 s (cb q n)) := by
  rw [← emb11]
  refine ((dats m 0 c).arrAt_emb_eq_flushed 11 (Pipeline.Window.hdisj_of_index_inj _ fun t t' _ _ => inj11 t t') (pt d q₀ k) (flush0_11 _) _).trans ?_
  rw [Value.flushed11]
  blk_simp
  rfl

theorem arr14 : ((dats m 0 c).arrAt 14 cfg0.N : Ssd.Arr ![2, 8, 4096, 8]) (ix4 d (grp q₀ q) (row d k s) r)
    = (outsAt0 m c (pt d q₀ k).val (pt d q₀ k).isLt).2.2.2.2.2.1 (ix4 0 q s r) := by
  rw [← emb14]
  refine ((dats m 0 c).arrAt_emb_eq_flushed 14 (Pipeline.Window.hdisj_of_index_inj _ fun t t' _ _ => inj14 t t') (pt d q₀ k) (flush0_14 _) _).trans ?_
  rw [Value.flushed14]
  blk_simp
  rfl

end

theorem exists_grp (g : Fin 8) : ∃ q₀ q, g = grp q₀ q :=
  ⟨⟨g.val / 2, by omega⟩, ⟨g.val % 2, by omega⟩, Fin.ext (by show g.val = 2 * (g.val / 2) + g.val % 2; omega)⟩

/-- Every position of every chunk is a row of the point that reads the chunk. -/
theorem exists_row (d : Fin 2) (i : Fin 32) (l : Fin 128) :
    ∃ k : Fin 32, ∃ s, i = Ssd.chunkAt k.val ∧ k.val = 31 - i.val ∧ l = order d s ∧ Ssd.nat d i l = row d k s := by
  have h : i = Ssd.chunkAt (31 - i.val) := Fin.ext (by show i.val = 31 - (31 - i.val) % 32; omega)
  refine ⟨⟨31 - i.val, by omega⟩, (order d).symm l, h, rfl, ((order d).apply_symm_apply l).symm, ?_⟩
  rw [row_eq, ← h, (order d).apply_symm_apply]

variable (g : Fin 8) (i : Fin 32) (l n : Fin 128) (r : Fin 8) (p : Fin 64)

theorem array_dX : ((dats m 0 c).arrAt 9 cfg0.N : Ssd.Arr ![2, 4096, 4096]) (ix3 d (Ssd.nat d i l) (Ssd.xcol g (Ssd.hp r p)))
    = (chunks m c d g i).dX Ssd.fwd 127 (Ssd.after (chunks m c d g) i) l r p := by
  obtain ⟨q₀, q, rfl⟩ := exists_grp g
  obtain ⟨k, s, hi, hk, hl, e⟩ := exists_row d i l
  unfold Ssd.after
  rw [e, ← hk, hi, hl, arr9, outs_dX]

theorem array_dB : ((dats m 0 c).arrAt 10 cfg0.N : Ssd.Arr ![2, 4096, 1024]) (ix3 d (Ssd.nat d i l) (Ssd.ncol g n))
    = (chunks m c d g i).dB Ssd.fwd 127 (Ssd.after (chunks m c d g) i) l n := by
  obtain ⟨q₀, q, rfl⟩ := exists_grp g
  obtain ⟨k, s, hi, hk, hl, e⟩ := exists_row d i l
  unfold Ssd.after
  rw [e, ← hk, hi, hl, arr10, outs_dB]

theorem array_dC : ((dats m 0 c).arrAt 11 cfg0.N : Ssd.Arr ![2, 4096, 1024]) (ix3 d (Ssd.nat d i l) (Ssd.ncol g n))
    = (chunks m c d g i).dC Ssd.fwd l n := by
  obtain ⟨q₀, q, rfl⟩ := exists_grp g
  obtain ⟨k, s, hi, hk, hl, e⟩ := exists_row d i l
  rw [e, hi, hl, arr11, outs_dC]

theorem array_dStep : ((dats m 0 c).arrAt 14 cfg0.N : Ssd.Arr ![2, 8, 4096, 8]) (ix4 d g (Ssd.nat d i l) r)
    = (chunks m c d g i).dStep Ssd.fwd 127 (Ssd.after (chunks m c d g) i) l r := by
  obtain ⟨q₀, q, rfl⟩ := exists_grp g
  obtain ⟨k, s, hi, hk, hl, e⟩ := exists_row d i l
  unfold Ssd.after
  rw [e, ← hk, hi, hl, arr14, outs_dStep]

end Cert.KernelIdeal.Block

end
-- ==== Proof.RefChunks.lean ====
/- What the reference program computes chunk by chunk before its loop: every array it makes from the inputs, the step
   sizes, their sums and the saved states, read at an index as a formula of the chunk. -/
module

public import proofs.«01_k».proof.Proof.Args
public import proofs.«01_k».proof.Proof.Gen.ReferenceIdeal.Run
public import Idealize.ShloMosaic.Lib.StableHlo.ReadAt

@[expose] public section

set_option maxRecDepth 16384

noncomputable section

namespace Cert.ReferenceIdeal.Chunks

open Idealize.ShloMosaic Idealize.ShloMosaic.Tactic Idealize.ShloMosaic.TcCoe Cert.ReferenceIdeal Cert.ReferenceIdeal.Gen Cert.ReferenceIdeal.Value StableHlo

/-- Position `l` of chunk `i`, in the order of the scan. -/
def pos (i : Fin 32) (l : Fin 128) : Fin 4096 := ⟨128 * i.val + l.val, by omega⟩

variable (W : Valuation τ sig (Elt Ideal))

/-- The stretches from the chunks' projections to the loop. -/
def mid : Valuation τ sig (Elt Ideal) := after hostOps0_18 (after hostOps0_17 (after hostOps0_16 (after hostOps0_15 (after hostOps0_14 W))))

variable (d : Fin 2) (g : Fin 8) (i : Fin 32)

/-- The chunk that the arrays hold. -/
def chunk : Ssd.Chunk where
  X l r p := (W (Proc.devRef .tc main_v3) : Ssd.Arr ![2, 4096, 8, 8, 64]) (ix5 d (pos i l) g r p)
  Y l r p := (W (Proc.devRef .tc main_v30) : Ssd.Arr ![2, 4096, 8, 8, 64]) (ix5 d (pos i l) g r p)
  B l n := (W (Proc.devRef .tc main_v7) : Ssd.Arr ![2, 4096, 8, 128]) (ix4 d (pos i l) g n)
  C l n := (W (Proc.devRef .tc main_v11) : Ssd.Arr ![2, 4096, 8, 128]) (ix4 d (pos i l) g n)
  D l r := (W (Proc.devRef .tc main_v18) : Ssd.Arr ![2, 4096, 8, 8]) (ix4 d (pos i l) g r)
  S l r := (W (Proc.devRef .tc main_v36) : Ssd.Arr ![2, 32, 128, 8, 8]) (ix5 d i l g r)
  P r p n := (W (Proc.devRef .tc main_v27) : Ssd.Arr ![2, 32, 8, 8, 64, 128]) (ix6 d i g r p n)

variable (l s n : Fin 128) (r : Fin 8) (p : Fin 64)

theorem pos_eq (i : Fin 32) (l : Fin 128) (h : i.val * 128 + l.val < 4096) : (⟨i.val * 128 + l.val, h⟩ : Fin 4096) = pos i l := by
  apply Fin.ext
  show i.val * 128 + l.val = 128 * i.val + l.val
  omega

/-- The least number a comparison can be masked with. -/
theorem neg_inf : (id (constant (F := Ideal) S_ FTy.f32 4286578688#32) : FVec Ideal S_ .f32) ix0 = ⊥ := by
  show Ideal.ieee 8 23 0xFF800000#32 = _
  unfold Ideal.ieee
  rw [if_pos (by decide), if_pos (by decide), if_pos (by decide)]

/-- The mask of the positions up to `l`, over two values. -/
theorem mask_at : ∀ l s : Fin 128, Scalar.select (IntOp.cmpi CmpIPredicate.sge (IntOp.addi (BitVec.ofNat 32 l.val) 0#32) (BitVec.ofNat 32 s.val)) 1#1 0#1
    = if Ssd.fwd l s then 1#1 else 0#1 := by
  decide +kernel

theorem select_fwd (l s : Fin 128) (x : EReal) : Scalar.select
    (Scalar.select (IntOp.cmpi CmpIPredicate.sge (IntOp.addi (BitVec.ofNat 32 l.val) 0#32) (BitVec.ofNat 32 s.val)) 1#1 0#1) x
      ((id (constant (F := Ideal) S_ FTy.f32 4286578688#32) : FVec Ideal S_ .f32) ix0) = if Ssd.fwd l s then x else ⊥ := by
  rw [neg_inf, mask_at]
  cases Ssd.fwd l s <;> rfl

set_option maxHeartbeats 2000000 in
theorem B_at : (mid W (Proc.devRef .tc main_v37) : Ssd.Arr ![2, 32, 128, 8, 128]) (ix5 d i l g n) = (chunk W d g i).B l n := by
  unfold mid
  after_reads_at
  rw [pos_eq]
  rfl

set_option maxHeartbeats 2000000 in
theorem C_at : (mid W (Proc.devRef .tc main_v38) : Ssd.Arr ![2, 32, 128, 8, 128]) (ix5 d i l g n) = (chunk W d g i).C l n := by
  unfold mid
  after_reads_at
  rw [pos_eq]
  rfl

set_option maxHeartbeats 2000000 in
theorem decay_at : (mid W (Proc.devRef .tc main_v48) : Ssd.Arr ![2, 32, 128, 128, 8, 8]) (ix6 d i l s g r) = (chunk W d g i).decay Ssd.fwd l s r := by
  unfold mid
  after_reads_at
  rw [select_fwd]
  rfl

set_option maxHeartbeats 4000000 in
theorem weight_at : (mid W (Proc.devRef .tc main_v53) : Ssd.Arr ![2, 32, 128, 128, 8, 8]) (ix6 d i l s g r) = (chunk W d g i).score l s * (chunk W d g i).decay Ssd.fwd l s r := by
  unfold mid
  after_reads_at
  rw [select_fwd]
  simp only [pos_eq]
  refine congrArg (· * (chunk W d g i).decay Ssd.fwd l s r) (Finset.sum_congr rfl fun x _ => ?_)
  exact mul_comm _ _

set_option maxHeartbeats 2000000 in
theorem tail_at : (mid W (Proc.devRef .tc main_v60) : Ssd.Arr ![2, 32, 128, 8, 8, 1]) (ix6 d i l g r 0) = (chunk W d g i).tail 127 l r := by
  unfold mid
  after_reads_at
  rfl

set_option maxHeartbeats 2000000 in
theorem dtx_at : (mid W (Proc.devRef .tc main_v62) : Ssd.Arr ![2, 32, 128, 8, 8, 64]) (ix6 d i l g r p) = (chunk W d g i).tail 127 l r * (W (Proc.devRef .tc main_v34) : Ssd.Arr ![2, 32, 128, 8, 8, 64]) (ix6 d i l g r p) := by
  unfold mid
  after_reads_at
  rfl

set_option maxHeartbeats 2000000 in
theorem Y_at : (mid W (Proc.devRef .tc main_v75) : Ssd.Arr ![2, 32, 128, 8, 8, 64]) (ix6 d i l g r p) = (chunk W d g i).Y l r p := by
  unfold mid
  after_reads_at
  rw [pos_eq]
  rfl

set_option maxHeartbeats 4000000 in
theorem dC_at : (mid W (Proc.devRef .tc main_v80) : Ssd.Arr ![2, 32, 128, 8, 128]) (ix5 d i l g n) = ∑ r, ∑ p, (chunk W d g i).dOut l r p * (chunk W d g i).P r p n := by
  unfold mid
  after_reads_at
  simp only [pos_eq]
  refine Finset.sum_congr rfl fun r _ => Finset.sum_congr rfl fun p _ => congrArg₂ (· * ·) ?_ rfl
  exact mul_comm _ _

set_option maxHeartbeats 2000000 in
theorem total_at : (mid W (Proc.devRef .tc main_v84) : Ssd.Arr ![32, 2, 8, 8, 1, 1]) (ix6 i d g r 0 0) = (chunk W d g i).total 127 r := by
  unfold mid
  after_reads_at
  rfl

set_option maxHeartbeats 4000000 in
theorem gain_at : (mid W (Proc.devRef .tc main_v85) : Ssd.Arr ![32, 2, 8, 8, 64, 128]) (ix6 i d g r p n) = ∑ l, (chunk W d g i).C l n * (chunk W d g i).dOut l r p := by
  unfold mid
  after_reads_at
  simp only [pos_eq]
  refine Finset.sum_congr rfl fun l _ => (mul_comm _ _).trans (congrArg₂ (· * ·) rfl ?_)
  exact mul_comm _ _

theorem carry_zero : (mid W (Proc.devRef .tc main_v88_3) : Ssd.Arr ![2, 8, 8, 64, 128]) (ix5 d g r p n) = (0 : EReal) := by
  unfold mid
  after_reads_simp
  exact Ideal.ofBits_zero_f32

theorem kept_zero : (mid W (Proc.devRef .tc main_v88_4) : Ssd.Arr ![32, 2, 8, 8, 64, 128]) (ix6 i d g r p n) = (0 : EReal) := by
  unfold mid
  after_reads_simp
  exact Ideal.ofBits_zero_f32

theorem gains_def : mid W (Proc.devRef .tc main_v88_0) = mid W (Proc.devRef .tc main_v85) := by
  unfold mid
  after_reads_simp
  rfl

theorem totals_def : mid W (Proc.devRef .tc main_v88_1) = mid W (Proc.devRef .tc main_v84) := by
  unfold mid
  after_reads_simp
  rfl

theorem counter_zero : mid W (Proc.devRef .tc main_v88_2) = constantI S_ 32 0#32 := by
  unfold mid
  after_reads_simp
  rfl

theorem mid_keeps (b : Ref sig .tc) (hb : b ∈ [main_v3, main_v31, main_v34]) : mid W (Proc.devRef .tc b) = W (Proc.devRef .tc b) := by
  unfold mid
  fin_cases hb <;> after_reads_simp

end Cert.ReferenceIdeal.Chunks

end
-- ==== Proof.Both.lean ====
/- The reference program's two directions, one upon the other: an array and the reverse of an array along the sequence,
   read at a position of a chunk. -/
module

public import proofs.«01_k».proof.Proof.RefChunks

@[expose] public section

set_option maxRecDepth 16384

noncomputable section

namespace Cert.ReferenceIdeal.Chunks

open Idealize.ShloMosaic Idealize.ShloMosaic.Tactic Idealize.ShloMosaic.TcCoe Cert.ReferenceIdeal Cert.ReferenceIdeal.Gen Cert.ReferenceIdeal.Value StableHlo

theorem pos_nat (i : Fin 32) (l : Fin 128) : pos i l = Ssd.nat 0 i l := rfl

theorem pos_rev (i : Fin 32) (l : Fin 128) : (pos i l).rev = Ssd.nat 1 i l := by
  apply Fin.ext
  rw [Fin.val_rev]
  show 4096 - (128 * i.val + l.val + 1) = 4095 - (128 * i.val + l.val)
  omega

theorem nat_rev (i : Fin 32) (l : Fin 128) : (Ssd.nat 1 i l).rev = pos i l := by
  rw [← pos_rev, Fin.rev_rev]

/-- Both directions of the inputs, -/
def stackX (a b : S1x4096x8x8x64.Idx → EReal) : S2x4096x8x8x64.Idx → EReal :=
  concatenate S2x4096x8x8x64 0 [⟨S1x4096x8x8x64, a⟩, ⟨S1x4096x8x8x64, b⟩] concatenates_S1x4096x8x8x64_S1x4096x8x8x64_S2x4096x8x8x64_d0

/-- of a projection, -/
def stackN (a b : S1x4096x8x128.Idx → EReal) : S2x4096x8x128.Idx → EReal :=
  concatenate S2x4096x8x128 0 [⟨S1x4096x8x128, a⟩, ⟨S1x4096x8x128, b⟩] concatenates_S1x4096x8x128_S1x4096x8x128_S2x4096x8x128_d0

/-- of the step sizes, -/
def stackD (a b : S1x4096x8x8.Idx → EReal) : S2x4096x8x8.Idx → EReal :=
  concatenate S2x4096x8x8 0 [⟨S1x4096x8x8, a⟩, ⟨S1x4096x8x8, b⟩] concatenates_S1x4096x8x8_S1x4096x8x8_S2x4096x8x8_d0

/-- and of the saved states. -/
def stackP (a b : S1x32x8x128x512.Idx → EReal) : S2x32x8x128x512.Idx → EReal :=
  concatenate S2x32x8x128x512 0 [⟨S1x32x8x128x512, a⟩, ⟨S1x32x8x128x512, b⟩] concatenates_S1x32x8x128x512_S1x32x8x128x512_S2x32x8x128x512_d0

theorem stackX_def : (fun a b : S1x4096x8x8x64.Idx → EReal =>
    concatenate S2x4096x8x8x64 0 [⟨S1x4096x8x8x64, a⟩, ⟨S1x4096x8x8x64, b⟩] concatenates_S1x4096x8x8x64_S1x4096x8x8x64_S2x4096x8x8x64_d0) = stackX := rfl

theorem stackN_def : (fun a b : S1x4096x8x128.Idx → EReal =>
    concatenate S2x4096x8x128 0 [⟨S1x4096x8x128, a⟩, ⟨S1x4096x8x128, b⟩] concatenates_S1x4096x8x128_S1x4096x8x128_S2x4096x8x128_d0) = stackN := rfl

theorem stackD_def : (fun a b : S1x4096x8x8.Idx → EReal =>
    concatenate S2x4096x8x8 0 [⟨S1x4096x8x8, a⟩, ⟨S1x4096x8x8, b⟩] concatenates_S1x4096x8x8_S1x4096x8x8_S2x4096x8x8_d0) = stackD := rfl

theorem stackP_def : (fun a b : S1x32x8x128x512.Idx → EReal =>
    concatenate S2x32x8x128x512 0 [⟨S1x32x8x128x512, a⟩, ⟨S1x32x8x128x512, b⟩] concatenates_S1x32x8x128x512_S1x32x8x128x512_S2x32x8x128x512_d0) = stackP := rfl

section

variable (d : Fin 2) (t : Fin 4096) (g r : Fin 8) (p : Fin 64) (n : Fin 128) (i : Fin 32) (j : Fin 512)

theorem stackX_at (a b : S1x4096x8x8x64.Idx → EReal) : stackX a (Host.reverse [1] b) (ix5 d t g r p)
    = if d = 0 then a (ix5 0 t g r p) else b (ix5 0 t.rev g r p) := by
  fin_cases d
  · pointwise [stackX]
  · pointwise [stackX]
    rfl

theorem stackN_at (a b : S1x4096x8x128.Idx → EReal) : stackN a (Host.reverse [1] b) (ix4 d t g n)
    = if d = 0 then a (ix4 0 t g n) else b (ix4 0 t.rev g n) := by
  fin_cases d
  · pointwise [stackN]
  · pointwise [stackN]
    rfl

theorem stackD_at (a b : S1x4096x8x8.Idx → EReal) : stackD a (Host.reverse [1] b) (ix4 d t g r)
    = if d = 0 then a (ix4 0 t g r) else b (ix4 0 t.rev g r) := by
  fin_cases d
  · pointwise [stackD]
  · pointwise [stackD]
    rfl

theorem stackP_at (a b : S1x32x8x128x512.Idx → EReal) : stackP a (Host.reverse [1] b) (ix5 d i g n j)
    = if d = 0 then a (ix5 0 i g n j) else b (ix5 0 i.rev g n j) := by
  fin_cases d
  · pointwise [stackP]
  · pointwise [stackP]
    rfl

end

end Cert.ReferenceIdeal.Chunks

end
-- ==== Proof.RefEarly.lean ====
/- What the reference program makes of its arguments before its chunks: the inputs, projections, step sizes, saved states
   and adjoints in the order of each scan, the logarithms of the decays and their sums. -/
module

public import proofs.«01_k».proof.Proof.Both

@[expose] public section

set_option maxRecDepth 16384

noncomputable section

namespace Cert.ReferenceIdeal.Chunks

open Idealize.ShloMosaic Idealize.ShloMosaic.Tactic Idealize.ShloMosaic.TcCoe Cert.ReferenceIdeal Cert.ReferenceIdeal.Gen Cert.ReferenceIdeal.Value StableHlo

variable (U : Valuation τ sig (Elt Ideal))

/-- The stretches before the chunks' projections. -/
def early : Valuation τ sig (Elt Ideal) := after hostOps0_13 (after hostOps0_12 (after hostOps0_11 (after hostOps0_10 (after hostOps0_9
  (after hostOps0_8 (after hostOps0_7 (after hostOps0_6 (after hostOps0_5 (after hostOps0_4 (after hostOps0_3 (after hostOps0_2
    (after hostOps0_1 (after hostOps0 U)))))))))))))

variable (d : Fin 2) (g : Fin 8) (i : Fin 32) (l n : Fin 128) (r : Fin 8) (p : Fin 64)

set_option maxHeartbeats 2000000 in
theorem early_X : (early U (Proc.devRef .tc main_v3) : Ssd.Arr ![2, 4096, 8, 8, 64]) (ix5 d (pos i l) g r p)
    = (U (Proc.devRef .tc main_arg0) : Ssd.Arr ![4096, 6144]) (ix2 (Ssd.nat d i l) ⟨(Ssd.xcol g (Ssd.hp r p)).val, by
      have := (Ssd.xcol g (Ssd.hp r p)).isLt; omega⟩) := by
  simp only [early, hostOps0, hostOps0_1, hostOps0_2, stackX_def]
  after_reads_at
  rw [stackX_at]
  by_cases hd : d = 0
  · subst hd
    rw [if_pos rfl]
    pointwise
    refine Ssd.at2 _ (pos_nat i l) ?_
    dsimp only [Ssd.xcol, Ssd.hp]
    omega
  · obtain rfl : d = 1 := by omega
    rw [if_neg (by decide)]
    pointwise
    refine Ssd.at2 _ (pos_rev i l) ?_
    dsimp only [Ssd.xcol, Ssd.hp]
    omega

set_option maxHeartbeats 2000000 in
theorem early_Y : (early U (Proc.devRef .tc main_v30) : Ssd.Arr ![2, 4096, 8, 8, 64]) (ix5 d (pos i l) g r p)
    = (U (Proc.devRef .tc main_arg5) : Ssd.Arr ![4096, 4096]) (ix2 (Ssd.nat d i l) (Ssd.xcol g (Ssd.hp r p))) := by
  simp only [early, hostOps0_12, stackX_def]
  after_reads_at
  rw [stackX_at]
  by_cases hd : d = 0
  · subst hd
    rw [if_pos rfl]
    pointwise
    refine Ssd.at2 _ (pos_nat i l) ?_
    dsimp only [Ssd.xcol, Ssd.hp]
    omega
  · obtain rfl : d = 1 := by omega
    rw [if_neg (by decide)]
    pointwise
    refine Ssd.at2 _ (pos_rev i l) ?_
    dsimp only [Ssd.xcol, Ssd.hp]
    omega

set_option maxHeartbeats 2000000 in
theorem early_B : (early U (Proc.devRef .tc main_v7) : Ssd.Arr ![2, 4096, 8, 128]) (ix4 d (pos i l) g n)
    = (U (Proc.devRef .tc main_arg0) : Ssd.Arr ![4096, 6144]) (ix2 (Ssd.nat d i l) ⟨4096 + (Ssd.ncol g n).val, by
      have := (Ssd.ncol g n).isLt; omega⟩) := by
  simp only [early, hostOps0_4, stackN_def]
  after_reads_at
  rw [stackN_at]
  by_cases hd : d = 0
  · subst hd
    rw [if_pos rfl]
    pointwise
    refine Ssd.at2 _ (pos_nat i l) ?_
    dsimp only [Ssd.ncol]
    omega
  · obtain rfl : d = 1 := by omega
    rw [if_neg (by decide)]
    pointwise
    refine Ssd.at2 _ (pos_rev i l) ?_
    dsimp only [Ssd.ncol]
    omega

set_option maxHeartbeats 2000000 in
theorem early_C : (early U (Proc.devRef .tc main_v11) : Ssd.Arr ![2, 4096, 8, 128]) (ix4 d (pos i l) g n)
    = (U (Proc.devRef .tc main_arg0) : Ssd.Arr ![4096, 6144]) (ix2 (Ssd.nat d i l) ⟨5120 + (Ssd.ncol g n).val, by
      have := (Ssd.ncol g n).isLt; omega⟩) := by
  simp only [early, hostOps0_6, stackN_def]
  after_reads_at
  rw [stackN_at]
  by_cases hd : d = 0
  · subst hd
    rw [if_pos rfl]
    pointwise
    refine Ssd.at2 _ (pos_nat i l) ?_
    dsimp only [Ssd.ncol]
    omega
  · obtain rfl : d = 1 := by omega
    rw [if_neg (by decide)]
    pointwise
    refine Ssd.at2 _ (pos_rev i l) ?_
    dsimp only [Ssd.ncol]
    omega

set_option maxHeartbeats 2000000 in
theorem early_D : (early U (Proc.devRef .tc main_v18) : Ssd.Arr ![2, 4096, 8, 8]) (ix4 d (pos i l) g r)
    = (U (Proc.devRef .tc main_arg1) : Ssd.Arr ![4096, 128]) (ix2 (Ssd.nat d i l) (Ssd.hcol d g r)) := by
  simp only [early, hostOps0_8, stackD_def]
  after_reads_at
  rw [stackD_at]
  by_cases hd : d = 0
  · subst hd
    rw [if_pos rfl]
    pointwise
    refine Ssd.at2 _ (pos_nat i l) ?_
    simp only [Ssd.hcol, Fin.val_zero, Fin.val_one]
    omega
  · obtain rfl : d = 1 := by omega
    rw [if_neg (by decide)]
    pointwise
    refine Ssd.at2 _ (pos_rev i l) ?_
    simp only [Ssd.hcol, Fin.val_zero, Fin.val_one]
    omega

set_option maxHeartbeats 2000000 in
theorem early_P : (early U (Proc.devRef .tc main_v27) : Ssd.Arr ![2, 32, 8, 8, 64, 128]) (ix6 d i g r p n)
    = (U (Proc.devRef .tc main_arg3) : Ssd.Arr ![2, 32, 8, 128, 512]) (ix5 d (Ssd.blk d i) g n (Ssd.hp r p)) := by
  simp only [early, hostOps0_10, stackP_def]
  after_reads_at
  rw [stackP_at]
  have e : (⟨r.val * 64 + p.val, by omega⟩ : Fin 512) = Ssd.hp r p := Fin.ext (by dsimp only [Ssd.hp]; omega)
  by_cases hd : d = 0
  · subst hd
    rw [if_pos rfl]
    pointwise
    rw [e]
    rfl
  · obtain rfl : d = 1 := by omega
    rw [if_neg (by decide)]
    pointwise
    rw [e]
    refine congrArg (fun k => (U (Proc.devRef .tc main_arg3) : Ssd.Arr ![2, 32, 8, 128, 512]) (ix5 1 k g n (Ssd.hp r p))) (Fin.ext ?_)
    rw [Fin.val_rev]
    show 32 - (i.val + 1) = 31 - i.val
    omega

set_option maxHeartbeats 2000000 in
theorem early_log_at : (early U (Proc.devRef .tc main_v35) : Ssd.Arr ![2, 32, 128, 8, 8]) (ix5 d i l g r)
    = HMul.hMul (α := EReal) (β := EReal) (γ := EReal) ((early U (Proc.devRef .tc main_v18) : Ssd.Arr ![2, 4096, 8, 8]) (ix4 d (pos i l) g r))
      ((U (Proc.devRef .tc main_arg2) : Ssd.Arr ![2, 8, 8]) (ix3 d g r)) := by
  simp only [early, hostOps0_8, stackD_def]
  after_reads_at
  rw [pos_eq]

theorem early_log : early U (Proc.devRef .tc main_v35) = Ssd.logDecay (U (Proc.devRef .tc main_arg1)) (U (Proc.devRef .tc main_arg2)) := by
  funext j
  rw [← ix5_eta j]
  exact (early_log_at U _ _ _ _ _).trans (congrArg (· * _) (early_D U _ _ _ _ _))

theorem sums_of (Z : Valuation τ sig (Elt Ideal)) : after hostOps0_13 Z (Proc.devRef .tc main_v36)
    = Ssd.sums reduceWindows_S2x32x128x8x8_S2x32x128x8x8_w1s1p0_0_w1s1p0_0_w128s1p127_0_w1s1p0_0_w1s1p0_0 h_S_ (Z (Proc.devRef .tc main_v35)) := by
  after_reads_simp
  simp -implicitDefEqProofs only [TRef.toBuf, TRef.ofBuf, cast_cast, cast_eq]
  rfl

theorem sums_keeps (Z : Valuation τ sig (Elt Ideal)) : after hostOps0_13 Z (Proc.devRef .tc main_v35) = Z (Proc.devRef .tc main_v35) := by
  after_reads_simp

theorem early_sums : early U (Proc.devRef .tc main_v36)
    = Ssd.sums reduceWindows_S2x32x128x8x8_S2x32x128x8x8_w1s1p0_0_w1s1p0_0_w128s1p127_0_w1s1p0_0_w1s1p0_0 h_S_ (early U (Proc.devRef .tc main_v35)) :=
  (sums_of _).trans (congrArg _ (sums_keeps _).symm)

set_option maxHeartbeats 2000000 in
theorem early_step : (early U (Proc.devRef .tc main_v31) : Ssd.Arr ![2, 4096, 8, 8, 1]) (ix5 d (pos i l) g r 0)
    = (early U (Proc.devRef .tc main_v18) : Ssd.Arr ![2, 4096, 8, 8]) (ix4 d (pos i l) g r) := by
  simp only [early, hostOps0_8, stackD_def]
  after_reads_at

set_option maxHeartbeats 2000000 in
theorem early_xdt : (early U (Proc.devRef .tc main_v34) : Ssd.Arr ![2, 32, 128, 8, 8, 64]) (ix6 d i l g r p)
    = HMul.hMul (α := EReal) (β := EReal) (γ := EReal) ((early U (Proc.devRef .tc main_v3) : Ssd.Arr ![2, 4096, 8, 8, 64]) (ix5 d (pos i l) g r p))
      ((early U (Proc.devRef .tc main_v18) : Ssd.Arr ![2, 4096, 8, 8]) (ix4 d (pos i l) g r)) := by
  simp only [early, hostOps0_2, hostOps0_8, stackX_def, stackD_def]
  after_reads_at
  rw [pos_eq]

/-- The reference's chunk is the arguments'. -/
theorem early_chunk : chunk (early U) d g i = Ssd.chunkOf (U (Proc.devRef .tc main_arg0)) (U (Proc.devRef .tc main_arg1))
    (Ssd.sums reduceWindows_S2x32x128x8x8_S2x32x128x8x8_w1s1p0_0_w1s1p0_0_w128s1p127_0_w1s1p0_0_w1s1p0_0 h_S_
      (Ssd.logDecay (U (Proc.devRef .tc main_arg1)) (U (Proc.devRef .tc main_arg2))))
    (U (Proc.devRef .tc main_arg3)) (U (Proc.devRef .tc main_arg5)) d g i := by
  unfold chunk Ssd.chunkOf
  rw [Ssd.Chunk.mk.injEq]
  refine ⟨?_, ?_, ?_, ?_, ?_, ?_, ?_⟩
  · exact funext fun l => funext fun r => funext fun p => early_X U d g i l r p
  · exact funext fun l => funext fun r => funext fun p => early_Y U d g i l r p
  · exact funext fun l => funext fun n => early_B U d g i l n
  · exact funext fun l => funext fun n => early_C U d g i l n
  · exact funext fun l => funext fun r => early_D U d g i l r
  · rw [early_sums, early_log]
  · exact funext fun r => funext fun p => funext fun n => early_P U d g i n r p

end Cert.ReferenceIdeal.Chunks

end
-- ==== Proof.RefArrange.lean ====
/- How the reference program lays its results out: both directions' rows in the order of the sequence. -/
module

public import proofs.«01_k».proof.Proof.Both

@[expose] public section

set_option maxRecDepth 16384

noncomputable section

namespace Cert.ReferenceIdeal.Chunks

open Idealize.ShloMosaic Idealize.ShloMosaic.Tactic Idealize.ShloMosaic.TcCoe Cert.ReferenceIdeal Cert.ReferenceIdeal.Gen Cert.ReferenceIdeal.Value StableHlo

theorem ncol_div (g : Fin 8) (n : Fin 128) (h : (Ssd.ncol g n).val / 128 < 8) : (⟨(Ssd.ncol g n).val / 128, h⟩ : Fin 8) = g := by
  apply Fin.ext
  dsimp only [Ssd.ncol]
  omega

theorem ncol_mod (g : Fin 8) (n : Fin 128) (h : (Ssd.ncol g n).val % 128 < 128) : (⟨(Ssd.ncol g n).val % 128, h⟩ : Fin 128) = n := by
  apply Fin.ext
  dsimp only [Ssd.ncol]
  omega

theorem xcol_group (g r : Fin 8) (p : Fin 64) (h : (Ssd.xcol g (Ssd.hp r p)).val / 512 < 8) :
    (⟨(Ssd.xcol g (Ssd.hp r p)).val / 512, h⟩ : Fin 8) = g := by
  apply Fin.ext
  dsimp only [Ssd.xcol, Ssd.hp]
  omega

theorem xcol_head (g r : Fin 8) (p : Fin 64) (h : (Ssd.xcol g (Ssd.hp r p)).val / 64 % 8 < 8) :
    (⟨(Ssd.xcol g (Ssd.hp r p)).val / 64 % 8, h⟩ : Fin 8) = r := by
  apply Fin.ext
  dsimp only [Ssd.xcol, Ssd.hp]
  omega

theorem xcol_chan (g r : Fin 8) (p : Fin 64) (h : (Ssd.xcol g (Ssd.hp r p)).val % 64 < 64) :
    (⟨(Ssd.xcol g (Ssd.hp r p)).val % 64, h⟩ : Fin 64) = p := by
  apply Fin.ext
  dsimp only [Ssd.xcol, Ssd.hp]
  omega

variable (Z : Valuation τ sig (Elt Ideal))

/-- The stretches after the results. -/
def late : Valuation τ sig (Elt Ideal) := after hostOps0_27 (after hostOps0_26 (after hostOps0_25 (after hostOps0_24 (after hostOps0_23
  (after hostOps0_22 (after hostOps0_21 (after hostOps0_20 Z)))))))

variable (d : Fin 2) (g : Fin 8) (i : Fin 32) (l n : Fin 128) (r : Fin 8) (p : Fin 64)

/-- The first direction's rows and the second's, cut out. -/
theorem cut_first (t : Fin 4096) : (after hostOps0_19 Z (Proc.devRef .tc main_v122) : Ssd.Arr ![1, 4096, 8, 8, 64]) (ix5 0 t g r p)
    = (after hostOps0_19 Z (Proc.devRef .tc main_v120) : Ssd.Arr ![2, 4096, 8, 8, 64]) (ix5 0 t g r p) := by
  after_reads_simp
  pointwise

theorem cut_second (t : Fin 4096) : (after hostOps0_19 Z (Proc.devRef .tc main_v123) : Ssd.Arr ![1, 4096, 8, 8, 64]) (ix5 0 t g r p)
    = (after hostOps0_19 Z (Proc.devRef .tc main_v120) : Ssd.Arr ![2, 4096, 8, 8, 64]) (ix5 1 t g r p) := by
  after_reads_simp
  pointwise

set_option maxHeartbeats 2000000 in
theorem late_X : (late Z (Proc.devRef .tc main_v126) : Ssd.Arr ![2, 4096, 4096]) (ix3 d (Ssd.nat d i l) (Ssd.xcol g (Ssd.hp r p)))
    = if d = 0 then (Z (Proc.devRef .tc main_v122) : Ssd.Arr ![1, 4096, 8, 8, 64]) (ix5 0 (pos i l) g r p)
      else (Z (Proc.devRef .tc main_v123) : Ssd.Arr ![1, 4096, 8, 8, 64]) (ix5 0 (pos i l) g r p) := by
  simp only [late, hostOps0_21, stackX_def]
  after_reads_at
  rw [xcol_group, xcol_head, xcol_chan, stackX_at]
  by_cases hd : d = 0
  · subst hd
    rw [if_pos rfl, if_pos rfl]
    rfl
  · obtain rfl : d = 1 := by omega
    rw [if_neg (by decide), if_neg (by decide), nat_rev]

set_option maxHeartbeats 2000000 in
theorem late_B : (late Z (Proc.devRef .tc main_v131) : Ssd.Arr ![2, 4096, 1024]) (ix3 d (Ssd.nat d i l) (Ssd.ncol g n))
    = (Z (Proc.devRef .tc main_v114) : Ssd.Arr ![2, 4096, 8, 128]) (ix4 d (pos i l) g n) := by
  simp only [late, hostOps0_23, stackN_def]
  after_reads_at
  rw [ncol_div, ncol_mod, stackN_at]
  by_cases hd : d = 0
  · subst hd
    rw [if_pos rfl]
    pointwise
    rfl
  · obtain rfl : d = 1 := by omega
    rw [if_neg (by decide), nat_rev]
    pointwise

set_option maxHeartbeats 2000000 in
theorem late_C : (late Z (Proc.devRef .tc main_v136) : Ssd.Arr ![2, 4096, 1024]) (ix3 d (Ssd.nat d i l) (Ssd.ncol g n))
    = (Z (Proc.devRef .tc main_v113) : Ssd.Arr ![2, 4096, 8, 128]) (ix4 d (pos i l) g n) := by
  simp only [late, hostOps0_25, stackN_def]
  after_reads_at
  rw [ncol_div, ncol_mod, stackN_at]
  by_cases hd : d = 0
  · subst hd
    rw [if_pos rfl]
    pointwise
    rfl
  · obtain rfl : d = 1 := by omega
    rw [if_neg (by decide), nat_rev]
    pointwise

set_option maxHeartbeats 2000000 in
theorem late_step : (late Z (Proc.devRef .tc main_v141) : Ssd.Arr ![2, 8, 4096, 8]) (ix4 d g (Ssd.nat d i l) r)
    = (Z (Proc.devRef .tc main_v121) : Ssd.Arr ![2, 4096, 8, 8]) (ix4 d (pos i l) g r) := by
  simp only [late, hostOps0_27, stackD_def]
  after_reads_at
  rw [stackD_at]
  by_cases hd : d = 0
  · subst hd
    rw [if_pos rfl]
    pointwise
    rfl
  · obtain rfl : d = 1 := by omega
    rw [if_neg (by decide), nat_rev]
    pointwise

end Cert.ReferenceIdeal.Chunks

end
-- ==== Proof.RefResults.lean ====
/- What the reference program computes after its loop: the gradients, read at an index as formulas of the chunk, and
   their arrangement as the results, whose second direction lies in the opposite order. -/
module

public import proofs.«01_k».proof.Proof.RefChunks

@[expose] public section

set_option maxRecDepth 16384

noncomputable section

namespace Cert.ReferenceIdeal.Chunks

open Idealize.ShloMosaic Idealize.ShloMosaic.Tactic Idealize.ShloMosaic.TcCoe Cert.ReferenceIdeal Cert.ReferenceIdeal.Gen Cert.ReferenceIdeal.Value StableHlo

variable (Z : Valuation τ sig (Elt Ideal))

/-- What the arrays hold when the loop ends, with respect to a chunk `K` and the gradient `H` of the state after it. -/
structure Holds (d : Fin 2) (g : Fin 8) (i : Fin 32) (K : Ssd.Chunk) (H : Ssd.State) : Prop where
  H : ∀ r p n, (Z (Proc.devRef .tc main_v88_4) : Ssd.Arr ![32, 2, 8, 8, 64, 128]) (ix6 i d g r p n) = H r p n
  B : ∀ l n, (Z (Proc.devRef .tc main_v37) : Ssd.Arr ![2, 32, 128, 8, 128]) (ix5 d i l g n) = K.B l n
  C : ∀ l n, (Z (Proc.devRef .tc main_v38) : Ssd.Arr ![2, 32, 128, 8, 128]) (ix5 d i l g n) = K.C l n
  Y : ∀ l r p, (Z (Proc.devRef .tc main_v75) : Ssd.Arr ![2, 32, 128, 8, 8, 64]) (ix6 d i l g r p) = K.Y l r p
  xdt : ∀ l r p, (Z (Proc.devRef .tc main_v34) : Ssd.Arr ![2, 32, 128, 8, 8, 64]) (ix6 d i l g r p) = K.xdt l r p
  X : ∀ l r p, (Z (Proc.devRef .tc main_v3) : Ssd.Arr ![2, 4096, 8, 8, 64]) (ix5 d (pos i l) g r p) = K.X l r p
  D : ∀ l r, (Z (Proc.devRef .tc main_v31) : Ssd.Arr ![2, 4096, 8, 8, 1]) (ix5 d (pos i l) g r 0) = K.D l r
  decay : ∀ l s r, (Z (Proc.devRef .tc main_v48) : Ssd.Arr ![2, 32, 128, 128, 8, 8]) (ix6 d i l s g r) = K.decay Ssd.fwd l s r
  weight : ∀ l s r, (Z (Proc.devRef .tc main_v53) : Ssd.Arr ![2, 32, 128, 128, 8, 8]) (ix6 d i l s g r) = K.score l s * K.decay Ssd.fwd l s r
  tail : ∀ l r, (Z (Proc.devRef .tc main_v60) : Ssd.Arr ![2, 32, 128, 8, 8, 1]) (ix6 d i l g r 0) = K.tail 127 l r
  dtx : ∀ l r p, (Z (Proc.devRef .tc main_v62) : Ssd.Arr ![2, 32, 128, 8, 8, 64]) (ix6 d i l g r p) = K.tail 127 l r * K.xdt l r p
  dC : ∀ l n, (Z (Proc.devRef .tc main_v80) : Ssd.Arr ![2, 32, 128, 8, 128]) (ix5 d i l g n) = ∑ r, ∑ p, K.dOut l r p * K.P r p n

/-- The sum over the last of six axes, the pairs of positions' heads. -/
theorem sum_heads (v : Ssd.Arr ![2, 32, 128, 128, 8, 8]) (d : Fin 2) (i : Fin 32) (l s : Fin 128) (g : Fin 8) :
    Ideal.hostReduceAdd reducesTo_S2x32x128x128x8x8_S2x32x128x128x8_d5 v 0 (ix5 d i l s g) = ∑ r : Fin 8, v (ix6 d i l s g r) := by
  have h : S2x32x128x128x8x8.Reduces [5] S2x32x128x128x8 := by decide
  rw [Ideal.hostReduceAdd_single _ h, zero_add]
  refine Finset.sum_congr rfl fun r _ => congrArg v (funext fun a => ?_)
  fin_cases a <;> rfl

/-- The sum over a last axis of one. -/
theorem sum_unit (v : Ssd.Arr ![2, 32, 128, 128, 8, 1]) (d : Fin 2) (i : Fin 32) (l s : Fin 128) (g : Fin 8) :
    Ideal.hostReduceAdd reducesTo_S2x32x128x128x8x1_S2x32x128x128x8_d5 v 0 (ix5 d i l s g) = v (ix6 d i l s g 0) := by
  have h : S2x32x128x128x8x1.Reduces [5] S2x32x128x128x8 := by decide
  rw [Ideal.hostReduceAdd_single _ h, zero_add]
  refine (Fin.sum_univ_one _).trans (congrArg v (funext fun a => ?_))
  fin_cases a <;> rfl

/-- Chunk and position of a row. -/
theorem div_mod (i : Fin 32) (l : Fin 128) : (pos i l).val / 128 = i.val ∧ (pos i l).val % 128 = l.val := by
  show (128 * i.val + l.val) / 128 = i.val ∧ (128 * i.val + l.val) % 128 = l.val
  omega

theorem div_eq (i : Fin 32) (l : Fin 128) (h : (pos i l).val / 128 < 32) : (⟨(pos i l).val / 128, h⟩ : Fin 32) = i :=
  Fin.ext (div_mod i l).1

theorem mod_eq (i : Fin 32) (l : Fin 128) (h : (pos i l).val % 128 < 128) : (⟨(pos i l).val % 128, h⟩ : Fin 128) = l :=
  Fin.ext (div_mod i l).2

variable {Z} {d : Fin 2} {g : Fin 8} {i : Fin 32} {K : Ssd.Chunk} {H : Ssd.State} (h : Holds Z d g i K H)
  (l s n : Fin 128) (r : Fin 8) (p : Fin 64)

include h

/-- The sum over the heads of a pair of positions, as the reference has it. -/
theorem Holds.dScore : Ideal.hostReduceAdd reducesTo_S2x32x128x128x8x8_S2x32x128x128x8_d5
      (mulf (F := Ideal) (φ := .f32)
        (transpose S2x32x128x128x8x8 [0, 1, 4, 5, 2, 3]
          (Ideal.matmul dot_S2x32x8x8x64x128_S2x32x128x8x8x64_S2x32x8x8x128x128_4_5_5_2_0123_0134
            (transpose S2x32x8x8x64x128 [0, 1, 3, 4, 5, 2] (Z (Proc.devRef .tc main_v75))
              transposes_S2x32x128x8x8x64_S2x32x8x8x64x128_0_1_3_4_5_2)
            (Z (Proc.devRef .tc main_v34)) fun _ => 0)
          transposes_S2x32x8x8x128x128_S2x32x128x128x8x8_0_1_4_5_2_3)
        (Z (Proc.devRef .tc main_v48)))
      0 (ix5 d i l s g) = K.dScore Ssd.fwd l s := by
  rw [sum_heads]
  refine Finset.sum_congr rfl fun r _ => ?_
  pointwise
  rw [h.decay]
  refine congrArg (· * _) (Finset.sum_congr rfl fun p _ => ?_)
  rw [h.Y, h.xdt]

set_option maxHeartbeats 4000000 in
theorem Holds.dX : (after hostOps0_19 Z (Proc.devRef .tc main_v120) : Ssd.Arr ![2, 4096, 8, 8, 64]) (ix5 d (pos i l) g r p)
    = K.dX Ssd.fwd 127 H l r p := by
  after_reads_at
  simp only [div_eq, mod_eq, h.tail, h.H, h.B, h.Y, h.weight, h.D]
  rw [add_comm]
  simp only [Ssd.Chunk.dX, Ssd.Chunk.dXdt, Ssd.Chunk.within, Ssd.Chunk.pull, mul_comm]

set_option maxHeartbeats 4000000 in
theorem Holds.dB : (after hostOps0_19 Z (Proc.devRef .tc main_v114) : Ssd.Arr ![2, 4096, 8, 128]) (ix4 d (pos i l) g n)
    = K.dB Ssd.fwd 127 H l n := by
  after_reads_at
  simp only [sum_unit, ix6_0, ix6_1, ix6_2, ix6_3, ix6_4, div_eq, mod_eq, h.dScore, h.H, h.dtx, h.C]
  simp only [Ssd.Chunk.dB]
  refine congrArg (· + _) (Finset.sum_congr rfl fun r _ => Finset.sum_congr rfl fun p _ => mul_comm _ _)

set_option maxHeartbeats 4000000 in
theorem Holds.dC' : (after hostOps0_19 Z (Proc.devRef .tc main_v113) : Ssd.Arr ![2, 4096, 8, 128]) (ix4 d (pos i l) g n)
    = K.dC Ssd.fwd l n := by
  after_reads_at
  simp only [sum_unit, ix6_0, ix6_1, ix6_2, ix6_3, ix6_4, div_eq, mod_eq, h.dScore, h.dC, h.B]
  rfl

set_option maxHeartbeats 4000000 in
theorem Holds.dStep : (after hostOps0_19 Z (Proc.devRef .tc main_v121) : Ssd.Arr ![2, 4096, 8, 8]) (ix4 d (pos i l) g r)
    = K.dStep Ssd.fwd 127 H l r := by
  after_reads_at
  simp only [div_eq, mod_eq, h.tail, h.H, h.B, h.Y, h.weight, h.X, Finset.univ_unique, Finset.sum_singleton]
  simp only [Ssd.Chunk.dStep, Ssd.Chunk.dXdt, Ssd.Chunk.within, Ssd.Chunk.pull]
  refine Finset.sum_congr rfl fun p _ => ?_
  rw [mul_comm, add_comm]
  simp only [mul_comm]

end Cert.ReferenceIdeal.Chunks

end
-- ==== Proof.RefLoop.lean ====
/- The reference program's loop: it takes the chunks from the last to the first, keeps the gradient of the state after
   each, and carries the gradient on to the chunk before. -/
module

public import proofs.«01_k».proof.Proof.RefResults
public import Idealize.ShloMosaic.Lib.DynamicIndex

@[expose] public section

set_option maxRecDepth 16384

noncomputable section

namespace Cert.ReferenceIdeal.Chunks

open Idealize.ShloMosaic Idealize.ShloMosaic.Tactic Idealize.ShloMosaic.TcCoe Cert.ReferenceIdeal Cert.ReferenceIdeal.Gen Cert.ReferenceIdeal.Value StableHlo

/-- The chunk that a trip reads, as a word. -/
theorem chunk_word : ∀ k : Fin 32, (IntOp.subi (IntOp.subi 32#32 (Scf.iv 0#32 1#32 k.val)) 1#32).toInt = ((31 - k.val : ℕ) : Int) := by
  decide +kernel

/-- A place that leaves room for the block is where the block goes. -/
theorem clamp_eq (a b c : ℕ) (h : a + c ≤ b) : (min (max (a : Int) 0) ((b - c : ℕ) : Int)).toNat = a := by omega

/-- Where a trip reads and writes. -/
def place (k : ℕ) : Fin 6 → ℕ := ![31 - k, 0, 0, 0, 0, 0]

section Step

variable (Z : Valuation τ sig (Elt Ideal)) (k : ℕ) (hk : k < 32) (hz : Z (Proc.devRef .tc main_v88_2) = fun _ => Scf.iv 0#32 1#32 k)

include hk hz in
theorem start_eq (a : Fin 6) : ((![res_main_while0b_v143 Z, constantI S_ 32 0#32, constantI S_ 32 0#32, constantI S_ 32 0#32,
    constantI S_ 32 0#32, constantI S_ 32 0#32] : Fin 6 → (⟨S_, .i32⟩ : BufTy).Contents (Elt Ideal)) a (Shape.Idx.first h_S_)).toInt
    = (place k a : Int) := by
  fin_cases a
  · unfold res_main_while0b_v143
    rw [hz]
    exact chunk_word ⟨k, hk⟩
  all_goals rfl

variable (d : Fin 2) (g r : Fin 8) (p : Fin 64) (n : Fin 128)

theorem slices_gains : S32x2x8x8x64x128.Slices (place k) S1x2x8x8x64x128 :=
  ⟨rfl, fun a => by
    fin_cases a
    · show 31 - k + 1 ≤ 32
      omega
    all_goals exact Nat.le_of_eq (Nat.zero_add _)⟩

theorem slices_totals : S32x2x8x8x1x1.Slices (place k) S1x2x8x8x1x1 :=
  ⟨rfl, fun a => by
    fin_cases a
    · show 31 - k + 1 ≤ 32
      omega
    all_goals exact Nat.le_of_eq (Nat.zero_add _)⟩

include hk in
theorem chunkAt_val : (Ssd.chunkAt k).val = 31 - k := by
  show 31 - k % 32 = 31 - k
  omega

include hk hz in
set_option maxHeartbeats 2000000 in
/-- The gradient that a trip carries on. -/
theorem step_carry : (step_main_v88_3 Z : Ssd.Arr ![2, 8, 8, 64, 128]) (ix5 d g r p n)
    = HAdd.hAdd (α := EReal) (β := EReal) (γ := EReal) ((Z (Proc.devRef .tc main_v88_0) : Ssd.Arr ![32, 2, 8, 8, 64, 128]) (ix6 (Ssd.chunkAt k) d g r p n))
      (HMul.hMul (α := EReal) (β := EReal) (γ := EReal) ((Z (Proc.devRef .tc main_v88_3) : Ssd.Arr ![2, 8, 8, 64, 128]) (ix5 d g r p n))
        ((Z (Proc.devRef .tc main_v88_1) : Ssd.Arr ![32, 2, 8, 8, 1, 1]) (ix6 (Ssd.chunkAt k) d g r 0 0))) := by
  unfold step_main_v88_3
  rw [Host.dynamicSlice_eq_extractStridedSlice _ _ _ (place k) _ (slices_gains k) (start_eq Z k hk hz),
    Host.dynamicSlice_eq_extractStridedSlice _ _ _ (place k) _ (slices_totals k) (start_eq Z k hk hz)]
  simp only [id]
  pointwise [place]
  rw [show (⟨31 - k, by omega⟩ : Fin 32) = Ssd.chunkAt k from Fin.ext (chunkAt_val k hk).symm]

include hk hz in
set_option maxHeartbeats 2000000 in
/-- The gradients that have been kept after a trip. -/
theorem step_kept (i : Fin 32) : (step_main_v88_4 Z : Ssd.Arr ![32, 2, 8, 8, 64, 128]) (ix6 i d g r p n)
    = if i = Ssd.chunkAt k then (Z (Proc.devRef .tc main_v88_3) : Ssd.Arr ![2, 8, 8, 64, 128]) (ix5 d g r p n)
      else (Z (Proc.devRef .tc main_v88_4) : Ssd.Arr ![32, 2, 8, 8, 64, 128]) (ix6 i d g r p n) := by
  unfold step_main_v88_4
  have hs := slices_gains k
  rw [id, Host.dynamicUpdateSlice_eq_updateSlice _ _ _ _ (place k) (fun a => by
    exact Eq.trans (congrArg (fun z : Int => (min (max z 0) ((S32x2x8x8x64x128.size a - S1x2x8x8x64x128.size (a.cast hs.1.symm) : ℕ) : Int)).toNat)
      (start_eq Z k hk hz a)) (clamp_eq _ _ _ (hs.2 a))) hs]
  have hv := chunkAt_val k hk
  by_cases hi : i = Ssd.chunkAt k
  · rw [if_pos hi]
    unfold updateSlice
    rw [dif_pos (by
      intro a
      fin_cases a
      · show 31 - k ≤ i.val ∧ i.val < 31 - k + 1
        rw [hi]
        omega
      · exact ⟨Nat.zero_le _, d.isLt⟩
      · exact ⟨Nat.zero_le _, g.isLt⟩
      · exact ⟨Nat.zero_le _, r.isLt⟩
      · exact ⟨Nat.zero_le _, p.isLt⟩
      · exact ⟨Nat.zero_le _, n.isLt⟩)]
    refine Eq.trans (congrArg (broadcastInDim S1x2x8x8x64x128 ![1, 2, 3, 4, 5] bcast_S2x8x8x64x128_S1x2x8x8x64x128_1_2_3_4_5
      (Z (Proc.devRef .tc main_v88_3) : Ssd.Arr ![2, 8, 8, 64, 128])) (funext fun b => ?_ : _ = ix6 0 d g r p n)) ?_
    · fin_cases b
      · refine Fin.ext (?_ : i.val - (31 - k) = 0)
        rw [hi]
        omega
      all_goals rfl
    · pointwise
  · rw [if_neg hi]
    unfold updateSlice
    rw [dif_neg (by
      intro h
      have h0 : 31 - k ≤ i.val ∧ i.val < 31 - k + 1 := h 0
      exact hi (Fin.ext (by omega)))]

end Step

variable (m : (ℓ : Loc nD τ sig) → Buf (Elt Ideal) ℓ) (c : Dev nD)

theorem gains_keep : ∀ k, atK m k c (Proc.devRef .tc main_v88_0) = atK m 0 c (Proc.devRef .tc main_v88_0)
  | 0 => rfl
  | k + 1 => ((trip_agree (atK m k c) main_v88_0 (by decide)).trans (STEP_main_v88_0 _)).trans (gains_keep k)

theorem totals_keep : ∀ k, atK m k c (Proc.devRef .tc main_v88_1) = atK m 0 c (Proc.devRef .tc main_v88_1)
  | 0 => rfl
  | k + 1 => ((trip_agree (atK m k c) main_v88_1 (by decide)).trans (STEP_main_v88_1 _)).trans (totals_keep k)

variable (W : Valuation τ sig (Elt Ideal)) (hW : atK m 0 c = mid W) (d : Fin 2) (g : Fin 8)

include hW in
/-- The carried gradient before each trip. -/
theorem carry_at : ∀ k ≤ 32, ∀ r p n, (atK m k c (Proc.devRef .tc main_v88_3) : Ssd.Arr ![2, 8, 8, 64, 128]) (ix5 d g r p n)
    = Ssd.carry (chunk W d g) k r p n
  | 0, _, r, p, n => (congrFun (congrFun hW _) _).trans (carry_zero W d g n r p)
  | k + 1, hk, r, p, n => by
    have e := carry_at k (by omega) r p n
    have h := (trip_agree (atK m k c) main_v88_3 (by decide)).trans (STEP_main_v88_3 _)
    refine (congrFun h _).trans ((step_carry (atK m k c) k (by omega) (atK_ctr m c k) d g r p n).trans ?_)
    rw [e, gains_keep, totals_keep, hW, gains_def, totals_def, gain_at, total_at, add_comm, mul_comm]
    rfl

include hW in
/-- The kept gradients before each trip. -/
theorem kept_at : ∀ k ≤ 32, ∀ i r p n, 31 - i.val < k → (atK m k c (Proc.devRef .tc main_v88_4) : Ssd.Arr ![32, 2, 8, 8, 64, 128]) (ix6 i d g r p n)
    = Ssd.after (chunk W d g) i r p n
  | k + 1, hk, i, r, p, n, hi => by
    have h := (trip_agree (atK m k c) main_v88_4 (by decide)).trans (STEP_main_v88_4 _)
    refine (congrFun h _).trans ((step_kept (atK m k c) k (by omega) (atK_ctr m c k) d g r p n i).trans ?_)
    have hv := chunkAt_val k (by omega)
    by_cases hj : i = Ssd.chunkAt k
    · rw [if_pos hj]
      have : 31 - i.val = k := by rw [hj, hv]; omega
      unfold Ssd.after
      rw [this]
      exact carry_at m c W hW d g k (by omega) r p n
    · rw [if_neg hj]
      refine kept_at k (by omega) i r p n ?_
      have : i.val ≠ 31 - k := fun h => hj (Fin.ext (h.trans hv.symm))
      omega

/-- What a trip leaves alone, -/
theorem trip_holds (b : Ref sig .tc) (hb : b ∈ [main_v3, main_v31, main_v34, main_v37, main_v38, main_v48, main_v53, main_v60, main_v62, main_v75, main_v80])
    (V : Valuation τ sig (Elt Ideal)) : afterL bodyI (StableHlo.after condOps V) (Proc.devRef .tc b) = V (Proc.devRef .tc b) := by
  simp only [afterL_cons, afterL_nil]
  fin_cases hb <;> after_reads_simp

theorem cond_holds (b : Ref sig .tc) (hb : b ∈ [main_v3, main_v31, main_v34, main_v37, main_v38, main_v48, main_v53, main_v60, main_v62, main_v75, main_v80, main_v88_4])
    (V : Valuation τ sig (Elt Ideal)) : StableHlo.after condOps V (Proc.devRef .tc b) = V (Proc.devRef .tc b) := by
  fin_cases hb <;> after_reads_simp

theorem atK_holds (b : Ref sig .tc) (hb : b ∈ [main_v3, main_v31, main_v34, main_v37, main_v38, main_v48, main_v53, main_v60, main_v62, main_v75, main_v80]) :
    ∀ k, atK m k c (Proc.devRef .tc b) = atK m 0 c (Proc.devRef .tc b)
  | 0 => rfl
  | k + 1 => (trip_holds b hb (atK m k c)).trans (atK_holds b hb k)

end Cert.ReferenceIdeal.Chunks

end
-- ==== Proof.RefFinal.lean ====
/- The reference program's results, chunk by chunk, of its arguments. -/
module

public import proofs.«01_k».proof.Proof.RefEarly
public import proofs.«01_k».proof.Proof.RefArrange
public import proofs.«01_k».proof.Proof.RefLoop

@[expose] public section

set_option maxRecDepth 16384

noncomputable section

namespace Cert.ReferenceIdeal.Chunks

open Idealize.ShloMosaic Idealize.ShloMosaic.Tactic Idealize.ShloMosaic.TcCoe Cert.ReferenceIdeal Cert.ReferenceIdeal.Gen Cert.ReferenceIdeal.Value StableHlo

variable (m : (ℓ : Loc nD τ sig) → Buf (Elt Ideal) ℓ) (c : Dev nD)

/-- What the program holds before its chunks. -/
def start : Valuation τ sig (Elt Ideal) := early (launchContents m c)

theorem entry_mid : atK m 0 c = mid (start m c) := rfl

/-- What the program holds when its loop has ended. -/
def ended : Valuation τ sig (Elt Ideal) := StableHlo.after condOps (atK m 32 c)

theorem ended_at (b : Ref sig .tc) (hb : b ∈ [main_v3, main_v31, main_v34, main_v37, main_v38, main_v48, main_v53, main_v60, main_v62, main_v75, main_v80]) :
    ended m c (Proc.devRef .tc b) = mid (start m c) (Proc.devRef .tc b) :=
  (cond_holds b (List.mem_append_left [main_v88_4] hb) _).trans ((atK_holds m c b hb 32).trans (congrFun (entry_mid m c) _))

theorem ended_keeps (b : Ref sig .tc) (hb : b ∈ [main_v3, main_v31, main_v34]) : ended m c (Proc.devRef .tc b) = start m c (Proc.devRef .tc b) :=
  (ended_at m c b (List.mem_append_left [main_v37, main_v38, main_v48, main_v53, main_v60, main_v62, main_v75, main_v80] hb)).trans (mid_keeps _ b hb)

variable (d : Fin 2) (g : Fin 8) (i : Fin 32)

/-- The chunk of the arguments. -/
abbrev part : Ssd.Chunk := chunk (start m c) d g i

theorem start_xdt (l : Fin 128) (r : Fin 8) (p : Fin 64) : (start m c (Proc.devRef .tc main_v34) : Ssd.Arr ![2, 32, 128, 8, 8, 64]) (ix6 d i l g r p)
    = (part m c d g i).xdt l r p := early_xdt _ d g i l r p

theorem ended_holds : Holds (ended m c) d g i (part m c d g i) (Ssd.after (part m c d g) i) where
  H r p n := (congrFun (cond_holds main_v88_4 (by decide) _) _).trans (kept_at m c _ (entry_mid m c) d g 32 le_rfl i r p n (by omega))
  B l n := (congrFun (ended_at m c main_v37 (by decide)) _).trans (B_at _ d g i l n)
  C l n := (congrFun (ended_at m c main_v38 (by decide)) _).trans (C_at _ d g i l n)
  Y l r p := (congrFun (ended_at m c main_v75 (by decide)) _).trans (Y_at _ d g i l r p)
  xdt l r p := (congrFun (ended_keeps m c main_v34 (by decide)) _).trans (start_xdt m c d g i l r p)
  X l r p := congrFun (ended_keeps m c main_v3 (by decide)) _
  D l r := (congrFun (ended_keeps m c main_v31 (by decide)) _).trans (early_step _ d g i l r)
  decay l s r := (congrFun (ended_at m c main_v48 (by decide)) _).trans (decay_at _ d g i l s r)
  weight l s r := (congrFun (ended_at m c main_v53 (by decide)) _).trans (weight_at _ d g i l s r)
  tail l r := (congrFun (ended_at m c main_v60 (by decide)) _).trans (tail_at _ d g i l r)
  dtx l r p := ((congrFun (ended_at m c main_v62 (by decide)) _).trans (dtx_at _ d g i l r p)).trans
    (congrArg ((part m c d g i).tail 127 l r * ·) (start_xdt m c d g i l r p))
  dC l n := (congrFun (ended_at m c main_v80 (by decide)) _).trans (dC_at _ d g i l n)

/-- What the program ends with. -/
abbrev final : Valuation τ sig (Elt Ideal) := finalContents condOps preI bodyI postI 32 m c

theorem final_late : final m c = late (after hostOps0_19 (ended m c)) := rfl

variable (l n : Fin 128) (r : Fin 8) (p : Fin 64)

/-- The gradient of the scan's inputs, -/
theorem final_dX : (final m c (Proc.devRef .tc main_v126) : Ssd.Arr ![2, 4096, 4096]) (ix3 d (Ssd.nat d i l) (Ssd.xcol g (Ssd.hp r p)))
    = (part m c d g i).dX Ssd.fwd 127 (Ssd.after (part m c d g) i) l r p := by
  rw [final_late]
  refine (late_X _ d g i l r p).trans ?_
  by_cases hd : d = 0
  · subst hd
    rw [if_pos rfl]
    exact (cut_first _ g r p _).trans ((ended_holds m c 0 g i).dX l r p)
  · obtain rfl : d = 1 := by omega
    rw [if_neg (by decide)]
    exact (cut_second _ g r p _).trans ((ended_holds m c 1 g i).dX l r p)

/-- of its two projections, -/
theorem final_dB : (final m c (Proc.devRef .tc main_v131) : Ssd.Arr ![2, 4096, 1024]) (ix3 d (Ssd.nat d i l) (Ssd.ncol g n))
    = (part m c d g i).dB Ssd.fwd 127 (Ssd.after (part m c d g) i) l n := by
  rw [final_late]
  exact (late_B _ d g i l n).trans ((ended_holds m c d g i).dB l n)

theorem final_dC : (final m c (Proc.devRef .tc main_v136) : Ssd.Arr ![2, 4096, 1024]) (ix3 d (Ssd.nat d i l) (Ssd.ncol g n))
    = (part m c d g i).dC Ssd.fwd l n := by
  rw [final_late]
  exact (late_C _ d g i l n).trans ((ended_holds m c d g i).dC' l n)

/-- and of the step sizes through the scaled inputs. -/
theorem final_dStep : (final m c (Proc.devRef .tc main_v141) : Ssd.Arr ![2, 8, 4096, 8]) (ix4 d g (Ssd.nat d i l) r)
    = (part m c d g i).dStep Ssd.fwd 127 (Ssd.after (part m c d g) i) l r := by
  rw [final_late]
  exact (late_step _ d g i l r).trans ((ended_holds m c d g i).dStep l r)

end Cert.ReferenceIdeal.Chunks

end
-- ==== Proof.Algebraic.lean ====
/- The kernel and the reference program end with equal results: both hold, at every place, the same formula of the same
   chunks. -/
module

public import proofs.«01_k».proof.Proof.Arrays
public import proofs.«01_k».proof.Proof.RefFinal
public import proofs.«01_k».proof.Proof.Frames

@[expose] public section

set_option maxRecDepth 16384

noncomputable section

namespace Cert.Proof

open Idealize.ShloMosaic Idealize.ShloMosaic.Tactic Idealize.SL.Sem

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arguments that the results depend on are the same. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} (s : Same m m' c) (d : Fin 2) (g : Fin 8)

include s

/-- Both programs read the same chunks. -/
theorem Same.chunks : Cert.ReferenceIdeal.Chunks.part m' c d g = Cert.KernelIdeal.Block.chunks m c d g := by
  funext i
  refine (Cert.ReferenceIdeal.Chunks.early_chunk _ d g i).trans ?_
  unfold Cert.KernelIdeal.Block.chunks
  rw [Cert.KernelIdeal.Block.entry_sums, Cert.KernelIdeal.Block.entry_log, Cert.KernelIdeal.Gen.V_main_arg0, Cert.KernelIdeal.Gen.V_main_arg1,
    Cert.KernelIdeal.Gen.V_main_arg2, Cert.KernelIdeal.Gen.V_main_arg3, Cert.KernelIdeal.Gen.V_main_arg5]
  have e0 := (StableHlo.launchContents_devRef m' c Cert.ReferenceIdeal.main_arg0).trans s.a0
  have e1 := (StableHlo.launchContents_devRef m' c Cert.ReferenceIdeal.main_arg1).trans s.a1
  have e2 := (StableHlo.launchContents_devRef m' c Cert.ReferenceIdeal.main_arg2).trans s.a2
  have e3 := (StableHlo.launchContents_devRef m' c Cert.ReferenceIdeal.main_arg3).trans s.a3
  have e5 := (StableHlo.launchContents_devRef m' c Cert.ReferenceIdeal.main_arg5).trans s.a5
  rw [e0, e1, e2, e3, e5]

theorem Same.dX : (Cert.ReferenceIdeal.Chunks.final m' c (Proc.devRef .tc Cert.ReferenceIdeal.main_v126) : Ssd.Arr ![2, 4096, 4096])
    = ((Cert.KernelIdeal.Gen.dats m 0 c).arrAt 9 Cert.KernelIdeal.cfg0.N : Ssd.Arr ![2, 4096, 4096]) := by
  have key : ∀ (d : Fin 2) (t x : Fin 4096), (Cert.ReferenceIdeal.Chunks.final m' c (Proc.devRef .tc Cert.ReferenceIdeal.main_v126) : Ssd.Arr ![2, 4096, 4096]) (ix3 d t x)
      = ((Cert.KernelIdeal.Gen.dats m 0 c).arrAt 9 Cert.KernelIdeal.cfg0.N : Ssd.Arr ![2, 4096, 4096]) (ix3 d t x) := by
    intro d t x
    obtain ⟨i, l, rfl⟩ := Ssd.exists_nat d t
    obtain ⟨g, r, p, rfl⟩ := Ssd.exists_xcol x
    refine (Cert.ReferenceIdeal.Chunks.final_dX m' c d g i l r p).trans (Eq.trans ?_ (Cert.KernelIdeal.Block.array_dX ..).symm)
    rw [s.chunks]
  funext j
  rw [← ix3_eta j]
  exact key _ _ _

theorem Same.dB : (Cert.ReferenceIdeal.Chunks.final m' c (Proc.devRef .tc Cert.ReferenceIdeal.main_v131) : Ssd.Arr ![2, 4096, 1024])
    = ((Cert.KernelIdeal.Gen.dats m 0 c).arrAt 10 Cert.KernelIdeal.cfg0.N : Ssd.Arr ![2, 4096, 1024]) := by
  have key : ∀ (d : Fin 2) (t : Fin 4096) (x : Fin 1024), (Cert.ReferenceIdeal.Chunks.final m' c (Proc.devRef .tc Cert.ReferenceIdeal.main_v131) : Ssd.Arr ![2, 4096, 1024]) (ix3 d t x)
      = ((Cert.KernelIdeal.Gen.dats m 0 c).arrAt 10 Cert.KernelIdeal.cfg0.N : Ssd.Arr ![2, 4096, 1024]) (ix3 d t x) := by
    intro d t x
    obtain ⟨i, l, rfl⟩ := Ssd.exists_nat d t
    obtain ⟨g, n, rfl⟩ := Ssd.exists_ncol x
    refine (Cert.ReferenceIdeal.Chunks.final_dB m' c d g i l n).trans (Eq.trans ?_ (Cert.KernelIdeal.Block.array_dB ..).symm)
    rw [s.chunks]
  funext j
  rw [← ix3_eta j]
  exact key _ _ _

theorem Same.dC : (Cert.ReferenceIdeal.Chunks.final m' c (Proc.devRef .tc Cert.ReferenceIdeal.main_v136) : Ssd.Arr ![2, 4096, 1024])
    = ((Cert.KernelIdeal.Gen.dats m 0 c).arrAt 11 Cert.KernelIdeal.cfg0.N : Ssd.Arr ![2, 4096, 1024]) := by
  have key : ∀ (d : Fin 2) (t : Fin 4096) (x : Fin 1024), (Cert.ReferenceIdeal.Chunks.final m' c (Proc.devRef .tc Cert.ReferenceIdeal.main_v136) : Ssd.Arr ![2, 4096, 1024]) (ix3 d t x)
      = ((Cert.KernelIdeal.Gen.dats m 0 c).arrAt 11 Cert.KernelIdeal.cfg0.N : Ssd.Arr ![2, 4096, 1024]) (ix3 d t x) := by
    intro d t x
    obtain ⟨i, l, rfl⟩ := Ssd.exists_nat d t
    obtain ⟨g, n, rfl⟩ := Ssd.exists_ncol x
    refine (Cert.ReferenceIdeal.Chunks.final_dC m' c d g i l n).trans (Eq.trans ?_ (Cert.KernelIdeal.Block.array_dC ..).symm)
    exact congrArg (fun K : Fin 32 → Ssd.Chunk => (K i).dC Ssd.fwd l n) (s.chunks d g)
  funext j
  rw [← ix3_eta j]
  exact key _ _ _

theorem Same.dStep : (Cert.ReferenceIdeal.Chunks.final m' c (Proc.devRef .tc Cert.ReferenceIdeal.main_v141) : Ssd.Arr ![2, 8, 4096, 8])
    = ((Cert.KernelIdeal.Gen.dats m 0 c).arrAt 14 Cert.KernelIdeal.cfg0.N : Ssd.Arr ![2, 8, 4096, 8]) := by
  have key : ∀ (d : Fin 2) (g : Fin 8) (t : Fin 4096) (r : Fin 8), (Cert.ReferenceIdeal.Chunks.final m' c (Proc.devRef .tc Cert.ReferenceIdeal.main_v141) : Ssd.Arr ![2, 8, 4096, 8]) (ix4 d g t r)
      = ((Cert.KernelIdeal.Gen.dats m 0 c).arrAt 14 Cert.KernelIdeal.cfg0.N : Ssd.Arr ![2, 8, 4096, 8]) (ix4 d g t r) := by
    intro d g t r
    obtain ⟨i, l, rfl⟩ := Ssd.exists_nat d t
    refine (Cert.ReferenceIdeal.Chunks.final_dStep m' c d g i l r).trans (Eq.trans ?_ (Cert.KernelIdeal.Block.array_dStep ..).symm)
    rw [s.chunks]
  funext j
  rw [← ix4_eta j]
  exact key _ _ _ _

end

/-- Both programs run and end with equal results. -/
theorem algebraic [Cert.KernelIdeal.Facts] [Cert.ReferenceIdeal.Facts] : Cert.algebraic_KernelIdeal_ReferenceIdeal := by
  intro m g m' g' _ ha
  have s : ∀ c, Same m m' c := fun c => ⟨(ha c).1, (ha c).2.1, (ha c).2.2.1, (ha c).2.2.2.1, (ha c).2.2.2.2.2⟩
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 14 Cert.KernelIdeal.cfg0.N,
    (θ_run (Cert.KernelIdeal.defs (F := Ideal)) _ _).mono (fun r h c => ?_) (Cert.KernelIdeal.Value.run_blocks m g),
    (θ_run (Cert.ReferenceIdeal.defs (F := Ideal)) _ _).mono (fun r h c => ?_) (reference_run m' g')⟩
  · obtain ⟨h0, h1, h2, -, -, h5, k⟩ := h c
    exact ⟨h0, h1, h2, h5, k⟩
  · exact ⟨(h.1.1 c Cert.ReferenceIdeal.main_v126 rfl).trans (s c).dX, (h.1.1 c Cert.ReferenceIdeal.main_v131 rfl).trans (s c).dB,
      (h.1.1 c Cert.ReferenceIdeal.main_v136 rfl).trans (s c).dC, (h.1.1 c Cert.ReferenceIdeal.main_v141 rfl).trans (s c).dStep,
      h.1.2 c _ (by decide), h.1.2 c _ (by decide), h.1.2 c _ (by decide), h.1.2 c _ (by decide), h.1.2 c _ (by decide), h.1.2 c _ (by decide)⟩

end Cert.Proof

end
-- ==== Proof.Products.lean ====
/- The mathematics of a product taken in blocks: the entries of an array at natural numbers, a sum over a long axis as
   the sums over its blocks, and a running sum that starts anew with every block of the result. -/
module

public import proofs.«01_k».proof.Proof.Args

@[expose] public section

noncomputable section

namespace Prod2

open Idealize.ShloMosaic Idealize.ShloMosaic.Tactic

/-- The entry of an array at two numbers, nothing outside of it. -/
def entry {a b : ℕ} (f : Ssd.Arr ![a, b]) (i j : ℕ) : EReal := if h : i < a ∧ j < b then f (ix2 ⟨i, h.1⟩ ⟨j, h.2⟩) else 0

theorem entry_of {a b : ℕ} (f : Ssd.Arr ![a, b]) (i : Fin a) (j : Fin b) : entry f i.val j.val = f (ix2 i j) := by
  unfold entry
  rw [dif_pos ⟨i.isLt, j.isLt⟩]

theorem entry_at {a b : ℕ} (f : Ssd.Arr ![a, b]) (i j : ℕ) (hi : i < a) (hj : j < b) : f (ix2 ⟨i, hi⟩ ⟨j, hj⟩) = entry f i j :=
  (entry_of f ⟨i, hi⟩ ⟨j, hj⟩).symm

/-- Every access of the kernels is to a whole block. -/
theorem zero2 : (![0, 0] : Fin 2 → ℕ) = fun _ => 0 := funext fun a => by fin_cases a <;> rfl
theorem zero3 : (![0, 0, 0] : Fin 3 → ℕ) = fun _ => 0 := funext fun a => by fin_cases a <;> rfl

/-- One more block of a sum. -/
theorem sum_block (f : ℕ → EReal) (t k : ℕ) :
    ∑ x ∈ Finset.range (t * (k + 1)), f x = ∑ x ∈ Finset.range (t * k), f x + ∑ y : Fin t, f (t * k + y.val) := by
  rw [Nat.mul_succ, Finset.sum_range_add, Finset.sum_range (fun x => f (t * k + x))]

/-- The sum over an axis, numbered. -/
theorem sum_fin (f : ℕ → EReal) (n : ℕ) : ∑ x ∈ Finset.range n, f x = ∑ x : Fin n, f x.val := Finset.sum_range f

/-- Within a block of the result the point before has the step before. -/
theorem step {n nk : ℕ} (h0 : (n + 1) % nk ≠ 0) (hk : 0 < nk) : (n + 1) / nk = n / nk ∧ n % nk + 1 = (n + 1) % nk := by
  have hd := Nat.div_add_mod (n + 1) nk
  have hl := Nat.mod_lt (n + 1) hk
  obtain ⟨r, hr⟩ := Nat.exists_eq_succ_of_ne_zero h0
  have e : n = nk * ((n + 1) / nk) + r := by omega
  have hrk : r < nk := by omega
  refine ⟨?_, ?_⟩
  · conv_rhs => rw [e, Nat.mul_add_div hk, Nat.div_eq_of_lt hrk, Nat.add_zero]
  · have : n % nk = r := by conv_lhs => rw [e, Nat.mul_add_mod, Nat.mod_eq_of_lt hrk]
    omega

section
variable {N nk tk : ℕ} (acc : ∀ n, n < N → EReal) (f : ℕ → ℕ → EReal)
  (first : ∀ n h, n % nk = 0 → acc n h = ∑ y : Fin tk, f (n / nk) (tk * (n % nk) + y.val))
  (later : ∀ n h, n % nk ≠ 0 → n % nk + 1 < nk →
    acc n h = acc (n - 1) (Nat.lt_of_le_of_lt (Nat.sub_le _ _) h) + ∑ y : Fin tk, f (n / nk) (tk * (n % nk) + y.val))

include first later

/-- A running sum over the points of a grid whose last axis has `nk` steps of `tk` terms each: it starts with the first
    step's terms, and every later step but the last adds its own to it. -/
theorem running : ∀ n h, n % nk + 1 < nk → acc n h = ∑ x ∈ Finset.range (tk * (n % nk + 1)), f (n / nk) x := by
  intro n
  induction n with
  | zero =>
    intro h _
    rw [first 0 h (Nat.zero_mod _), sum_block, Nat.zero_mod, Nat.mul_zero, Finset.range_zero, Finset.sum_empty, zero_add]
  | succ n ih =>
    intro h hn
    by_cases h0 : (n + 1) % nk = 0
    · rw [first _ h h0, sum_block, h0, Nat.mul_zero, Finset.range_zero, Finset.sum_empty, zero_add]
    · obtain ⟨hd, hm⟩ := step h0 (by omega)
      refine (later _ h h0 hn).trans ?_
      rw [sum_block, hd, ← hm]
      exact congrArg (· + _) (ih _ (by omega))

/-- At the last step the running sum and the step's own terms are the whole sum. -/
theorem total {n : ℕ} (h : n < N) (hn : n % nk + 1 = nk) (h1 : n % nk ≠ 0) :
    acc (n - 1) (Nat.lt_of_le_of_lt (Nat.sub_le _ _) h) + ∑ y : Fin tk, f (n / nk) (tk * (n % nk) + y.val)
    = ∑ x : Fin (tk * nk), f (n / nk) x.val := by
  obtain ⟨k, rfl⟩ : ∃ k, n = k + 1 := Nat.exists_eq_succ_of_ne_zero fun e => h1 (by rw [e, Nat.zero_mod])
  obtain ⟨hd, hm⟩ := step h1 (by omega)
  rw [← sum_fin, show tk * nk = tk * ((k + 1) % nk + 1) by rw [hn], sum_block, hd, ← hm]
  exact congrArg (· + _) (running acc f first later k _ (by omega))

end

end Prod2

end
-- ==== Proof.UpForward.lean ====
/- The MLP's first product: what the kernel leaves in its two results is the product of its arguments and the square of
   the product's positive part, and so is what the reference leaves in its own. -/
module

public import proofs.«01_k».proof.Defs
public import proofs.«01_k».proof.Proof.Products
public import proofs.«01_k».proof.Proof.Gen.MlpUp.Frame
public import proofs.«01_k».proof.Proof.Gen.MlpUpIdeal.Value
public import proofs.«01_k».proof.Proof.Gen.MlpUpRefIdeal.Run
public import Idealize.ShloMosaic.Lib.Pipeline.ValueKit
public import Idealize.ShloMosaic.Lib.StableHlo.ReadAt

@[expose] public section

set_option maxRecDepth 16384

noncomputable section

namespace Cert.MlpUpIdeal.Block

open Idealize.ShloMosaic Idealize.ShloMosaic.Tactic Idealize.ShloMosaic.TcCoe Cert.MlpUpIdeal Cert.MlpUpIdeal.Gen

theorem idx0 : ∀ t : Fin grid0.N, win0_0.index t = ![t.val / 8, 0] := by decide +kernel
theorem idx1 : ∀ t : Fin grid0.N, win0_1.index t = ![t.val % 8, 0, 0] := by decide +kernel
theorem idx2 : ∀ t : Fin grid0.N, win0_2.index t = ![t.val / 8, t.val % 8] := by decide +kernel
theorem idx3 : ∀ t : Fin grid0.N, win0_3.index t = ![t.val / 8, t.val % 8] := by decide +kernel

variable (m : (ℓ : Loc nD τ sig) → Buf (Elt Ideal) ℓ) (c : Dev nD)

/-- The two factors. -/
abbrev lhs : Ssd.Arr ![4096, 2048] := m ((c : Thread nD τ).loc main_arg0)
abbrev rhs : Ssd.Arr ![2048, 8192] := m ((c : Thread nD τ).loc main_arg1)

theorem points (t : Fin cfg0.N) : t.val < 32 := lt_of_lt_of_eq t.isLt N_0

/-- The host lays the weights' columns in eight slabs. -/
theorem slabs (d : Fin 8) (i : Fin 2048) (j : Fin 1024) : (V m c main_v1 : Ssd.Arr ![8, 2048, 1024]) (ix3 d i j)
    = rhs m c (ix2 i ⟨1024 * d.val + j.val, by omega⟩) := by
  simp only [V, hostOps0, List.flatten_cons, List.flatten_nil, List.append_nil, List.cons_append, List.nil_append]
  after_reads_at
  refine congrArg (fun k => rhs m c (ix2 i k)) (Fin.ext ?_)
  show d.val * 1024 + j.val = 1024 * d.val + j.val
  omega

theorem blk0 (t : Fin cfg0.N) (r : Fin 1024) (k : Fin 2048) : iblk m c 0 t (ix2 r k)
    = lhs m c (ix2 ⟨1024 * (t.val / 8) + r.val, by have := points t; omega⟩ k) := by
  blk_simp [iblk]
  rw [V_main_arg0]
  refine congrArg _ ?_
  blk_ext [idx0]

theorem blk1 (t : Fin cfg0.N) (k : Fin 2048) (s : Fin 1024) : iblk m c 1 t (ix3 0 k s)
    = rhs m c (ix2 k ⟨1024 * (t.val % 8) + s.val, by omega⟩) := by
  refine Eq.trans ?_ (slabs m c ⟨t.val % 8, by omega⟩ k s)
  blk_simp [iblk]
  refine congrArg _ ?_
  blk_ext [idx1]

/-- An entry of the product. -/
def prod (a : Ssd.Arr ![4096, 2048]) (b : Ssd.Arr ![2048, 8192]) (i : Fin 4096) (j : Fin 8192) : EReal :=
  ∑ x : Fin 2048, HMul.hMul (α := EReal) (β := EReal) (γ := EReal) (a (ix2 i x)) (b (ix2 x j))

/-- The square of what is positive. -/
def sq (u : EReal) : EReal := max u 0 * max u 0

/-- The product of a point's two blocks. -/
theorem part (t : Fin cfg0.N) (r s : Fin 1024) : k0_pay1 (F := Ideal) (iblk m c 0 t) (iblk m c 1 t) (ix2 r s)
    = prod (lhs m c) (rhs m c) ⟨1024 * (t.val / 8) + r.val, by have := points t; omega⟩ ⟨1024 * (t.val % 8) + s.val, by omega⟩ := by
  pointwise [k0_pay1]
  refine Finset.sum_congr rfl fun y _ => ?_
  rw [blk0, blk1]

/-- The point that writes an entry. -/
def pt (i : Fin 4096) (j : Fin 8192) : Fin cfg0.N := ⟨8 * (i.val / 1024) + j.val / 1024, lt_of_lt_of_eq (b := 32) (by omega) N_0.symm⟩

theorem emb2 (i : Fin 4096) (j : Fin 8192) : ((cfg0.win 2).blk (pt i j)).view.emb
    (ix2 (⟨i.val % 1024, Nat.mod_lt _ (by decide)⟩ : Fin 1024) (⟨j.val % 1024, Nat.mod_lt _ (by decide)⟩ : Fin 1024)) = ix2 i j := by
  blk_ext [idx2, pt]

theorem emb3 (i : Fin 4096) (j : Fin 8192) : ((cfg0.win 3).blk (pt i j)).view.emb
    (ix2 (⟨i.val % 1024, Nat.mod_lt _ (by decide)⟩ : Fin 1024) (⟨j.val % 1024, Nat.mod_lt _ (by decide)⟩ : Fin 1024)) = ix2 i j := by
  blk_ext [idx3, pt]

theorem part_pt (i : Fin 4096) (j : Fin 8192) : k0_pay1 (F := Ideal) (iblk m c 0 (pt i j)) (iblk m c 1 (pt i j))
    (ix2 ⟨i.val % 1024, Nat.mod_lt _ (by decide)⟩ ⟨j.val % 1024, Nat.mod_lt _ (by decide)⟩) = prod (lhs m c) (rhs m c) i j := by
  rw [part]
  refine congrArg₂ _ (Fin.ext ?_) (Fin.ext ?_)
  · show 1024 * ((8 * (i.val / 1024) + j.val / 1024) / 8) + i.val % 1024 = i.val
    omega
  · show 1024 * ((8 * (i.val / 1024) + j.val / 1024) % 8) + j.val % 1024 = j.val
    omega

/-- The first result is the product. -/
theorem array2 (i : Fin 4096) (j : Fin 8192) : ((dats m 0 c).arrAt 2 cfg0.N : Ssd.Arr ![4096, 8192]) (ix2 i j) = prod (lhs m c) (rhs m c) i j := by
  rw [← part_pt m c i j]
  conv_lhs => rw [← emb2 i j]
  refine ((dats m 0 c).arrAt_emb_eq_flushed 2 (Pipeline.Window.hdisj_of_index_inj _ fun t t' _ _ => Value.idx_inj2 t t') (pt i j) (flush0_2 _) _).trans ?_
  rw [Value.flushed2]
  blk_simp
  unfold out0_2
  rw [View.canon_unit_zero Prod2.zero2, View.ld_unit_zero Prod2.zero2, View.ld_unit_zero Prod2.zero3]
  rfl

/-- The second is the square of its positive part. -/
theorem array3 (i : Fin 4096) (j : Fin 8192) : ((dats m 0 c).arrAt 3 cfg0.N : Ssd.Arr ![4096, 8192]) (ix2 i j) = sq (prod (lhs m c) (rhs m c) i j) := by
  rw [← part_pt m c i j]
  conv_lhs => rw [← emb3 i j]
  refine ((dats m 0 c).arrAt_emb_eq_flushed 3 (Pipeline.Window.hdisj_of_index_inj _ fun t t' _ _ => Value.idx_inj3 t t') (pt i j) (flush0_3 _) _).trans ?_
  rw [Value.flushed3]
  blk_simp
  unfold out0_3
  rw [View.canon_unit_zero Prod2.zero2, View.ld_unit_zero Prod2.zero2, View.ld_unit_zero Prod2.zero3]
  pointwise [k0_pay2]
  rfl

end Cert.MlpUpIdeal.Block

namespace Cert.Proof.UpForward

open Idealize.ShloMosaic Idealize.ShloMosaic.Tactic Idealize.SL.Sem

/-- The kernel runs on the machine's numbers. -/
theorem kernel_frame [Cert.MlpUp.Facts] : Cert.quiescent_MlpUp := fun m g _ => Cert.MlpUp.Gen.frame m g

/-- The kernel runs on the ideal numbers. -/
theorem ideal_frame [Cert.MlpUpIdeal.Facts] : Cert.quiescent_MlpUpIdeal := fun m g _ => Cert.MlpUpIdeal.Gen.frame m g

/-- The reference program declares no semaphore. -/
theorem no_sem (s : GSem Cert.MlpUpRefIdeal.nD Cert.MlpUpRefIdeal.τ Cert.MlpUpRefIdeal.sig → Int) : s = fun _ => 0 := by
  funext ⟨_, l⟩
  cases l with
  | reg i => exact i.elim0
  | dma i => exact i.elim0

/-- The reference program runs. -/
theorem reference_frame : Cert.quiescent_MlpUpRefIdeal := fun m g _ =>
  (θ_run (Cert.MlpUpRefIdeal.defs (F := Ideal)) _ _).mono (fun r h => ⟨fun c => ⟨(h c).2.2.1, (h c).2.2.2⟩, no_sem _⟩)
    (Cert.MlpUpRefIdeal.Value.run m g)

/-- The reference's product, entry by entry. -/
theorem reference_at (a : Ssd.Arr ![4096, 2048]) (b : Ssd.Arr ![2048, 8192]) (i : Fin 4096) (j : Fin 8192) :
    Host.dotGeneral (F := Ideal) (φ₁ := .f32) (φ₂ := .f32) Cert.MlpUpRefIdeal.dot_S4096x2048_S2048x8192_S4096x8192_1_0_0_1_n_n none a b (ix2 i j)
    = Cert.MlpUpIdeal.Block.prod a b i j := by
  pointwise
  rfl

/-- The reference's square, entry by entry. -/
theorem square_at (u : Ssd.Arr ![4096, 8192]) (i : Fin 4096) (j : Fin 8192) :
    mulf (F := Ideal) (φ := .f32) (maximumf (F := Ideal) (φ := .f32) u (broadcastInDim Cert.MlpUpRefIdeal.S4096x8192 ![] Cert.MlpUpRefIdeal.Facts₀.bcast_S_S4096x8192
      (constant Cert.MlpUpRefIdeal.S_ .f32 0x00000000#32))) (maximumf (F := Ideal) (φ := .f32) u (broadcastInDim Cert.MlpUpRefIdeal.S4096x8192 ![] Cert.MlpUpRefIdeal.Facts₀.bcast_S_S4096x8192
      (constant Cert.MlpUpRefIdeal.S_ .f32 0x00000000#32))) (ix2 i j) = Cert.MlpUpIdeal.Block.sq (u (ix2 i j)) := by
  pointwise
  rfl

/-- Both programs run and end with equal results. -/
theorem algebraic [Cert.MlpUpIdeal.Facts] [Cert.MlpUpRefIdeal.Facts] : Cert.algebraic_MlpUpIdeal_MlpUpRefIdeal := by
  intro m g m' g' _ ha
  refine ⟨fun c => (Cert.MlpUpIdeal.Gen.dats m 0 c).arrAt 2 Cert.MlpUpIdeal.cfg0.N, fun c => (Cert.MlpUpIdeal.Gen.dats m 0 c).arrAt 3 Cert.MlpUpIdeal.cfg0.N,
    (θ_run (Cert.MlpUpIdeal.defs (F := Ideal)) _ _).mono (fun r h c => h c) (Cert.MlpUpIdeal.Value.run_blocks m g),
    (θ_run (Cert.MlpUpRefIdeal.defs (F := Ideal)) _ _).mono (fun r h c => ⟨(h c).1.trans ?_, (h c).2.1.trans ?_, (h c).2.2⟩) (Cert.MlpUpRefIdeal.Value.run m' g')⟩
  all_goals
    obtain ⟨e0, e1⟩ := ha c
    rw [e0, e1]
    refine funext fun y => ?_
    rw [← ix2_eta y]
  · exact (reference_at _ _ _ _).trans (Cert.MlpUpIdeal.Block.array2 m c _ _).symm
  · exact (square_at _ _ _).trans ((congrArg _ (reference_at _ _ _ _)).trans (Cert.MlpUpIdeal.Block.array3 m c _ _).symm)

end Cert.Proof.UpForward

end
-- ==== Proof.DownForward.lean ====
/- The second product of the MLP: what the kernel leaves in its result is the product of its two arguments, and so is
   what the reference leaves in its own. -/
module

public import proofs.«01_k».proof.Defs
public import proofs.«01_k».proof.Proof.Products
public import proofs.«01_k».proof.Proof.Gen.MlpDown.Frame
public import proofs.«01_k».proof.Proof.Gen.MlpDownIdeal.Value
public import proofs.«01_k».proof.Proof.Gen.MlpDownRefIdeal.Run
public import Idealize.ShloMosaic.Lib.Pipeline.ValueKit

@[expose] public section

set_option maxRecDepth 16384

noncomputable section

namespace Cert.MlpDownIdeal.Block

open Idealize.ShloMosaic Idealize.ShloMosaic.Tactic Idealize.ShloMosaic.TcCoe Cert.MlpDownIdeal Cert.MlpDownIdeal.Gen

theorem idx0 : ∀ t : Fin grid0.N, win0_0.index t = ![t.val / 4 / 2, t.val % 4] := by decide +kernel
theorem idx1 : ∀ t : Fin grid0.N, win0_1.index t = ![t.val % 4, t.val / 4 % 2] := by decide +kernel

variable (m : (ℓ : Loc nD τ sig) → Buf (Elt Ideal) ℓ) (c : Dev nD)

/-- The two factors. -/
abbrev lhs : Ssd.Arr ![4096, 8192] := m ((c : Thread nD τ).loc main_arg0)
abbrev rhs : Ssd.Arr ![8192, 2048] := m ((c : Thread nD τ).loc main_arg1)

theorem points (t : Fin cfg0.N) : t.val < 32 := lt_of_lt_of_eq t.isLt N_0

theorem blk0 (t : Fin cfg0.N) (r : Fin 1024) (k : Fin 2048) : iblk m c 0 t (ix2 r k)
    = Prod2.entry (lhs m c) (1024 * (t.val / 4 / 2) + r.val) (2048 * (t.val % 4) + k.val) := by
  have := points t
  rw [← Prod2.entry_at _ _ _ (by omega) (by omega)]
  blk_simp [iblk]
  rw [V_main_arg0]
  refine congrArg _ ?_
  blk_ext [idx0]

theorem blk1 (t : Fin cfg0.N) (k : Fin 2048) (s : Fin 1024) : iblk m c 1 t (ix2 k s)
    = Prod2.entry (rhs m c) (2048 * (t.val % 4) + k.val) (1024 * (t.val / 4 % 2) + s.val) := by
  have := points t
  rw [← Prod2.entry_at _ _ _ (by omega) (by omega)]
  blk_simp [iblk]
  rw [V_main_arg1]
  refine congrArg _ ?_
  blk_ext [idx1]

/-- The terms of one entry of the result, by the number of its block. -/
def term (r s : Fin 1024) (b x : ℕ) : EReal :=
  HMul.hMul (α := EReal) (β := EReal) (γ := EReal) (Prod2.entry (lhs m c) (1024 * (b / 2) + r.val) x)
    (Prod2.entry (rhs m c) x (1024 * (b % 2) + s.val))

/-- The product of a point's two blocks. -/
theorem part (t : Fin cfg0.N) (r s : Fin 1024) : k0_pay1 (F := Ideal) (iblk m c 0 t) (iblk m c 1 t) (ix2 r s)
    = ∑ y : Fin 2048, term m c r s (t.val / 4) (2048 * (t.val % 4) + y.val) := by
  pointwise [k0_pay1]
  refine Finset.sum_congr rfl fun y _ => ?_
  rw [blk0, blk1]
  rfl

theorem pay2_at (x0 : Vec Ideal S1024x2048 .bf16) (x1 : Vec Ideal S2048x1024 .bf16) (r s : Fin 1024) :
    k0_pay2 x0 x1 (ix2 r s) = k0_pay1 x0 x1 (ix2 r s) := by
  pointwise [k0_pay2]

theorem pay3_at (x0 : Vec Ideal S1024x2048 .bf16) (x1 : Vec Ideal S2048x1024 .bf16) (a : Vec Ideal S1024x1024 .f32) (r s : Fin 1024) :
    k0_pay3 x0 x1 a (ix2 r s) = HAdd.hAdd (α := EReal) (β := EReal) (γ := EReal) (a (ix2 r s)) (k0_pay1 x0 x1 (ix2 r s)) := by
  pointwise [k0_pay3]

/-- What the first step leaves in the carried sum. -/
theorem left_first (t : Fin cfg0.N) (h0 : t.val % 4 = 0) :
    (outsAt0 m c t.val t.isLt).2 = k0_pay2 (F := Ideal) (iblk m c 0 t) (iblk m c 1 t) := by
  rw [outsAt0_A m c t h0 (by omega) (by omega)]
  dsimp only [sout0_A_0]
  rw [View.read_writes_junk_eq_canon (Val := Elt Ideal)]
  unfold kernelRun0_A
  dsimp only
  sl_unfold_words
  simp only [View.readAt_eq_ld, (hs0_0 t).read_unread, (hs0_1 t).read_unread]
  rw [View.canon_unit_zero Prod2.zero2, View.ld_unit_zero Prod2.zero2, View.ld_unit_zero Prod2.zero2]

/-- What a step between leaves in it. -/
theorem left_later (t : Fin cfg0.N) (h0 : t.val % 4 ≠ 0) (h1 : t.val % 4 + 1 < 4) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 (by omega) (by omega)]
  dsimp only [sout0_B_0]
  rw [View.read_writes_junk_eq_canon (Val := Elt Ideal)]
  unfold kernelRun0_B
  dsimp only
  sl_unfold_words
  simp only [View.readAt_eq_ld, (hs0_0 t).read_unread, (hs0_1 t).read_unread, (Memref.isWhole_whole cc0_scratch0).read_unread]
  rw [View.canon_unit_zero Prod2.zero2, View.ld_unit_zero Prod2.zero2, View.ld_unit_zero Prod2.zero2, View.ld_unit_zero Prod2.zero2]

/-- What the last step leaves in the result's block. -/
theorem out_last (t : Fin cfg0.N) (h2 : t.val % 4 = 3) :
    (outsAt0 m c t.val t.isLt).1 = k0_pay4 (F := Ideal) (iblk m c 0 t) (iblk m c 1 t)
      (outsAt0 m c (t.val - 1) (Nat.lt_of_le_of_lt (Nat.sub_le _ _) t.isLt)).2 := by
  rw [outsAt0_C m c t (by omega) (by omega) h2]
  dsimp only [out0_C_2]
  rw [View.read_writes_junk_eq_canon (Val := Elt Ideal)]
  unfold kernelRun0_C
  dsimp only
  sl_unfold_words
  simp only [View.readAt_eq_ld, (hs0_0 t).read_unread, (hs0_1 t).read_unread, (Memref.isWhole_whole cc0_scratch0).read_unread]
  rw [View.canon_unit_zero Prod2.zero2, View.ld_unit_zero Prod2.zero2, View.ld_unit_zero Prod2.zero2, View.ld_unit_zero Prod2.zero2]

/-- An entry of the result, by the point that writes it. -/
theorem out_at (t : Fin cfg0.N) (h2 : t.val % 4 = 3) (r s : Fin 1024) :
    (outsAt0 m c t.val t.isLt).1 (ix2 r s) = ∑ x : Fin 8192, term m c r s (t.val / 4) x.val := by
  rw [out_last m c t h2]
  have p4 : ∀ a : Vec Ideal S1024x1024 .f32, k0_pay4 (iblk m c 0 t) (iblk m c 1 t) a (ix2 r s)
      = HAdd.hAdd (α := EReal) (β := EReal) (γ := EReal) (a (ix2 r s)) (k0_pay1 (F := Ideal) (iblk m c 0 t) (iblk m c 1 t) (ix2 r s)) := fun a => by
    pointwise [k0_pay4]
  rw [p4, part]
  refine Prod2.total (nk := 4) (tk := 2048) (fun n h => (outsAt0 m c n h).2 (ix2 r s)) (term m c r s) (fun n h h0 => ?_) (fun n h h0 h1 => ?_)
    t.isLt (by omega) (by omega)
  · rw [← part m c ⟨n, h⟩ r s, ← pay2_at]
    exact congrFun (left_first m c ⟨n, h⟩ h0) _
  · rw [← part m c ⟨n, h⟩ r s, ← pay3_at]
    exact congrFun (left_later m c ⟨n, h⟩ h0 h1) _

/-- The result is the product. -/
theorem array (i : Fin 4096) (j : Fin 2048) : ((dats m 0 c).arrAt 2 cfg0.N : Ssd.Arr ![4096, 2048]) (ix2 i j)
    = ∑ x : Fin 8192, HMul.hMul (α := EReal) (β := EReal) (γ := EReal) (lhs m c (ix2 i x)) (rhs m c (ix2 x j)) := by
  have hi := i.isLt
  have hj := j.isLt
  have hp : Value.pt2Of (ix2 i j) < cfg0.N := lt_of_lt_of_eq (b := 32) (by show 4 * (2 * (i.val / 1024 - 0) + 1 * (j.val / 1024 - 0)) + 3 < 32; omega) N_0.symm
  rw [Value.final2]
  unfold Value.G2
  rw [dif_pos hp, ← Value.outsAt0_sweep m c _ hp]
  have e : Value.pt2Of (ix2 i j) = 4 * (2 * (i.val / 1024) + j.val / 1024) + 3 := by
    show 4 * (2 * (i.val / 1024 - 0) + 1 * (j.val / 1024 - 0)) + 3 = _
    omega
  have el : Value.loc2Of (ix2 i j) = ix2 ⟨i.val % 1024, Nat.mod_lt _ (by decide)⟩ ⟨j.val % 1024, Nat.mod_lt _ (by decide)⟩ := by
    funext a; fin_cases a <;> rfl
  rw [el]
  refine (out_at m c ⟨_, hp⟩ (by dsimp only; omega) _ _).trans (Finset.sum_congr rfl fun x _ => ?_)
  unfold term
  dsimp only
  rw [← Prod2.entry_of (lhs m c), ← Prod2.entry_of (rhs m c)]
  congr 2 <;> omega

end Cert.MlpDownIdeal.Block

namespace Cert.Proof.DownForward

open Idealize.ShloMosaic Idealize.ShloMosaic.Tactic Idealize.SL.Sem

/-- The kernel runs on the machine's numbers. -/
theorem kernel_frame [Cert.MlpDown.Facts] : Cert.quiescent_MlpDown := fun m g _ => Cert.MlpDown.Gen.frame m g

/-- The kernel runs on the ideal numbers. -/
theorem ideal_frame [Cert.MlpDownIdeal.Facts] : Cert.quiescent_MlpDownIdeal := fun m g _ => Cert.MlpDownIdeal.Gen.frame m g

/-- The reference program declares no semaphore. -/
theorem no_sem (s : GSem Cert.MlpDownRefIdeal.nD Cert.MlpDownRefIdeal.τ Cert.MlpDownRefIdeal.sig → Int) : s = fun _ => 0 := by
  funext ⟨_, l⟩
  cases l with
  | reg i => exact i.elim0
  | dma i => exact i.elim0

/-- The reference program runs. -/
theorem reference_frame : Cert.quiescent_MlpDownRefIdeal := fun m g _ =>
  (θ_run (Cert.MlpDownRefIdeal.defs (F := Ideal)) _ _).mono (fun r h => ⟨fun c => ⟨(h c).2.1, (h c).2.2⟩, no_sem _⟩)
    (Cert.MlpDownRefIdeal.Value.run m g)

/-- The reference's product, entry by entry. -/
theorem reference_at (a : Ssd.Arr ![4096, 8192]) (b : Ssd.Arr ![8192, 2048]) (i : Fin 4096) (j : Fin 2048) :
    Host.dotGeneral (F := Ideal) (φ₁ := .f32) (φ₂ := .f32) Cert.MlpDownRefIdeal.dot_S4096x8192_S8192x2048_S4096x2048_1_0_0_1_n_n none a b (ix2 i j)
    = ∑ x : Fin 8192, HMul.hMul (α := EReal) (β := EReal) (γ := EReal) (a (ix2 i x)) (b (ix2 x j)) := by
  pointwise

/-- Both programs run and end with equal results. -/
theorem algebraic [Cert.MlpDownIdeal.Facts] [Cert.MlpDownRefIdeal.Facts] : Cert.algebraic_MlpDownIdeal_MlpDownRefIdeal := by
  intro m g m' g' _ ha
  refine ⟨fun c => (Cert.MlpDownIdeal.Gen.dats m 0 c).arrAt 2 Cert.MlpDownIdeal.cfg0.N,
    (θ_run (Cert.MlpDownIdeal.defs (F := Ideal)) _ _).mono (fun r h c => h c) (Cert.MlpDownIdeal.Value.run_blocks m g),
    (θ_run (Cert.MlpDownRefIdeal.defs (F := Ideal)) _ _).mono (fun r h c => ⟨(h c).1.trans ?_, (h c).2⟩) (Cert.MlpDownRefIdeal.Value.run m' g')⟩
  obtain ⟨e0, e1⟩ := ha c
  rw [e0, e1]
  refine funext fun y => ?_
  rw [← ix2_eta y]
  exact (reference_at _ _ _ _).trans (Cert.MlpDownIdeal.Block.array m c _ _).symm

end Cert.Proof.DownForward

end
-- ==== Proof.DownInputs.lean ====
/- The gradient of the MLP's hidden values: what the kernel leaves in its result is the product of the gradient and the
   transposed weights, times twice the positive part of the values before the square; the reference leaves nothing where that part
   is nothing, and the same product elsewhere. -/
module

public import proofs.«01_k».proof.Defs
public import proofs.«01_k».proof.Proof.Products
public import proofs.«01_k».proof.Proof.Gen.MlpDownDx.Frame
public import proofs.«01_k».proof.Proof.Gen.MlpDownDxIdeal.Value
public import proofs.«01_k».proof.Proof.Gen.MlpDownDxRefIdeal.Run
public import Idealize.ShloMosaic.Lib.Pipeline.ValueKit

@[expose] public section

set_option maxRecDepth 16384

noncomputable section

namespace Cert.MlpDownDxIdeal.Block

open Idealize.ShloMosaic Idealize.ShloMosaic.Tactic Idealize.ShloMosaic.TcCoe Cert.MlpDownDxIdeal Cert.MlpDownDxIdeal.Gen

theorem idx0 : ∀ t : Fin grid0.N, win0_0.index t = ![t.val / 8, 0] := by decide +kernel
theorem idx1 : ∀ t : Fin grid0.N, win0_1.index t = ![t.val % 8, 0] := by decide +kernel
theorem idx2 : ∀ t : Fin grid0.N, win0_2.index t = ![t.val / 8, t.val % 8] := by decide +kernel
theorem idx3 : ∀ t : Fin grid0.N, win0_3.index t = ![t.val / 8, t.val % 8] := by decide +kernel

variable (m : (ℓ : Loc nD τ sig) → Buf (Elt Ideal) ℓ) (c : Dev nD)

/-- The two factors and the values before the square. -/
abbrev lhs : Ssd.Arr ![4096, 2048] := m ((c : Thread nD τ).loc main_arg0)
abbrev rhs : Ssd.Arr ![8192, 2048] := m ((c : Thread nD τ).loc main_arg1)
abbrev pre : Ssd.Arr ![4096, 8192] := m ((c : Thread nD τ).loc main_arg2)

theorem points (t : Fin cfg0.N) : t.val < 32 := lt_of_lt_of_eq t.isLt N_0

theorem blk0 (t : Fin cfg0.N) (r : Fin 1024) (k : Fin 2048) : iblk m c 0 t (ix2 r k)
    = lhs m c (ix2 ⟨1024 * (t.val / 8) + r.val, by have := points t; omega⟩ k) := by
  blk_simp [iblk]
  rw [V_main_arg0]
  refine congrArg _ ?_
  blk_ext [idx0]

theorem blk1 (t : Fin cfg0.N) (s : Fin 1024) (k : Fin 2048) : iblk m c 1 t (ix2 s k)
    = rhs m c (ix2 ⟨1024 * (t.val % 8) + s.val, by omega⟩ k) := by
  blk_simp [iblk]
  rw [V_main_arg1]
  refine congrArg _ ?_
  blk_ext [idx1]

theorem blk2 (t : Fin cfg0.N) (r s : Fin 1024) : iblk m c 2 t (ix2 r s)
    = pre m c (ix2 ⟨1024 * (t.val / 8) + r.val, by have := points t; omega⟩ ⟨1024 * (t.val % 8) + s.val, by omega⟩) := by
  blk_simp [iblk]
  rw [V_main_arg2]
  refine congrArg _ ?_
  blk_ext [idx2]

/-- An entry of the result: an entry of the product, times twice the positive part. -/
def out (a : Ssd.Arr ![4096, 2048]) (b : Ssd.Arr ![8192, 2048]) (u : Ssd.Arr ![4096, 8192]) (i : Fin 4096) (j : Fin 8192) : EReal :=
  (∑ x : Fin 2048, HMul.hMul (α := EReal) (β := EReal) (γ := EReal) (a (ix2 i x)) (b (ix2 j x)))
    * (FloatOps.ofBits (F := Ideal) .f32 0x40000000#32 * max (u (ix2 i j)) (FloatOps.ofBits (F := Ideal) .f32 0x00000000#32))

/-- What a point leaves in the result's block. -/
theorem part (t : Fin cfg0.N) (r s : Fin 1024) : k0_pay1 (F := Ideal) (iblk m c 0 t) (iblk m c 1 t) (iblk m c 2 t) (ix2 r s)
    = out (lhs m c) (rhs m c) (pre m c) ⟨1024 * (t.val / 8) + r.val, by have := points t; omega⟩ ⟨1024 * (t.val % 8) + s.val, by omega⟩ := by
  unfold out
  rw [← blk2]
  pointwise [k0_pay1]
  refine congrArg (fun z : EReal => HMul.hMul (α := EReal) (β := EReal) (γ := EReal) z _) (Finset.sum_congr rfl fun y _ => ?_)
  rw [blk0, blk1]

/-- The point that writes an entry. -/
def pt (i : Fin 4096) (j : Fin 8192) : Fin cfg0.N := ⟨8 * (i.val / 1024) + j.val / 1024, lt_of_lt_of_eq (b := 32) (by omega) N_0.symm⟩

theorem emb3 (i : Fin 4096) (j : Fin 8192) : ((cfg0.win 3).blk (pt i j)).view.emb
    (ix2 (⟨i.val % 1024, Nat.mod_lt _ (by decide)⟩ : Fin 1024) (⟨j.val % 1024, Nat.mod_lt _ (by decide)⟩ : Fin 1024)) = ix2 i j := by
  blk_ext [idx3, pt]

theorem part_pt (i : Fin 4096) (j : Fin 8192) : k0_pay1 (F := Ideal) (iblk m c 0 (pt i j)) (iblk m c 1 (pt i j)) (iblk m c 2 (pt i j))
    (ix2 ⟨i.val % 1024, Nat.mod_lt _ (by decide)⟩ ⟨j.val % 1024, Nat.mod_lt _ (by decide)⟩) = out (lhs m c) (rhs m c) (pre m c) i j := by
  rw [part]
  refine congrArg₂ _ (Fin.ext ?_) (Fin.ext ?_)
  · show 1024 * ((8 * (i.val / 1024) + j.val / 1024) / 8) + i.val % 1024 = i.val
    omega
  · show 1024 * ((8 * (i.val / 1024) + j.val / 1024) % 8) + j.val % 1024 = j.val
    omega

/-- The result, entry by entry. -/
theorem array (i : Fin 4096) (j : Fin 8192) : ((dats m 0 c).arrAt 3 cfg0.N : Ssd.Arr ![4096, 8192]) (ix2 i j) = out (lhs m c) (rhs m c) (pre m c) i j := by
  rw [← part_pt m c i j]
  conv_lhs => rw [← emb3 i j]
  refine ((dats m 0 c).arrAt_emb_eq_flushed 3 (Pipeline.Window.hdisj_of_index_inj _ fun t t' _ _ => Value.idx_inj3 t t') (pt i j) (flush0_3 _) _).trans ?_
  rw [Value.flushed3]
  blk_simp
  unfold out0_3
  rw [View.canon_unit_zero Prod2.zero2, View.ld_unit_zero Prod2.zero2, View.ld_unit_zero Prod2.zero2, View.ld_unit_zero Prod2.zero2]
  rfl

end Cert.MlpDownDxIdeal.Block

namespace Cert.Proof.DownInputs

open Idealize.ShloMosaic Idealize.ShloMosaic.Tactic Idealize.SL.Sem

/-- The kernel runs on the machine's numbers. -/
theorem kernel_frame [Cert.MlpDownDx.Facts] : Cert.quiescent_MlpDownDx := fun m g _ => Cert.MlpDownDx.Gen.frame m g

/-- The kernel runs on the ideal numbers. -/
theorem ideal_frame [Cert.MlpDownDxIdeal.Facts] : Cert.quiescent_MlpDownDxIdeal := fun m g _ => Cert.MlpDownDxIdeal.Gen.frame m g

/-- The reference program declares no semaphore. -/
theorem no_sem (s : GSem Cert.MlpDownDxRefIdeal.nD Cert.MlpDownDxRefIdeal.τ Cert.MlpDownDxRefIdeal.sig → Int) : s = fun _ => 0 := by
  funext ⟨_, l⟩
  cases l with
  | reg i => exact i.elim0
  | dma i => exact i.elim0

/-- The reference program runs. -/
theorem reference_frame : Cert.quiescent_MlpDownDxRefIdeal := fun m g _ =>
  (θ_run (Cert.MlpDownDxRefIdeal.defs (F := Ideal)) _ _).mono (fun r h => ⟨fun c => ⟨(h c).2.1, (h c).2.2.1, (h c).2.2.2⟩, no_sem _⟩)
    (Cert.MlpDownDxRefIdeal.Value.run m g)

/-- The constant the reference broadcasts. -/
abbrev splat (b : BitVec 32) : Ssd.Arr ![4096, 8192] := broadcastInDim Cert.MlpDownDxRefIdeal.S4096x8192 ![] Cert.MlpDownDxRefIdeal.Facts₀.bcast_S_S4096x8192
  (constant (F := Ideal) Cert.MlpDownDxRefIdeal.S_ .f32 b)

/-- The reference's result, entry by entry. -/
theorem reference_at (a : Ssd.Arr ![4096, 2048]) (b : Ssd.Arr ![8192, 2048]) (u : Ssd.Arr ![4096, 8192]) (i : Fin 4096) (j : Fin 8192) :
    select (cmpf (F := Ideal) (φ := .f32) .ogt u (splat 0x00000000#32)) (mulf (F := Ideal) (φ := .f32)
      (Host.dotGeneral (F := Ideal) (φ₁ := .f32) (φ₂ := .f32) Cert.MlpDownDxRefIdeal.dot_S4096x2048_S8192x2048_S4096x8192_1_1_0_0_n_n none a b)
      (mulf (F := Ideal) (φ := .f32) (splat 0x40000000#32) (maximumf (F := Ideal) (φ := .f32) u (splat 0x00000000#32)))) (splat 0x00000000#32) (ix2 i j)
    = Cert.MlpDownDxIdeal.Block.out a b u i j := by
  unfold Cert.MlpDownDxIdeal.Block.out splat
  pointwise
  split_ifs with h
  · rfl
  · rw [max_eq_right (not_lt.mp h), mul_zero, mul_zero]

/-- Both programs run and end with equal results. -/
theorem algebraic [Cert.MlpDownDxIdeal.Facts] [Cert.MlpDownDxRefIdeal.Facts] : Cert.algebraic_MlpDownDxIdeal_MlpDownDxRefIdeal := by
  intro m g m' g' _ ha
  refine ⟨fun c => (Cert.MlpDownDxIdeal.Gen.dats m 0 c).arrAt 3 Cert.MlpDownDxIdeal.cfg0.N,
    (θ_run (Cert.MlpDownDxIdeal.defs (F := Ideal)) _ _).mono (fun r h c => h c) (Cert.MlpDownDxIdeal.Value.run_blocks m g),
    (θ_run (Cert.MlpDownDxRefIdeal.defs (F := Ideal)) _ _).mono (fun r h c => ⟨(h c).1.trans ?_, (h c).2⟩) (Cert.MlpDownDxRefIdeal.Value.run m' g')⟩
  obtain ⟨e0, e1, e2⟩ := ha c
  rw [e0, e1, e2]
  refine funext fun y => ?_
  rw [← ix2_eta y]
  exact (reference_at _ _ _ _ _).trans (Cert.MlpDownDxIdeal.Block.array m c _ _).symm

end Cert.Proof.DownInputs

end
-- ==== Proof.DownWeights.lean ====
/- The gradient of the MLP's second weights: what the kernel leaves in its result is the product of the transposed hidden
   values and the gradient, and so is what the reference leaves in its own. -/
module

public import proofs.«01_k».proof.Defs
public import proofs.«01_k».proof.Proof.Products
public import proofs.«01_k».proof.Proof.Gen.MlpDownDw.Frame
public import proofs.«01_k».proof.Proof.Gen.MlpDownDwIdeal.Value
public import proofs.«01_k».proof.Proof.Gen.MlpDownDwRefIdeal.Run
public import Idealize.ShloMosaic.Lib.Pipeline.ValueKit

@[expose] public section

set_option maxRecDepth 16384

noncomputable section

namespace Cert.MlpDownDwIdeal.Block

open Idealize.ShloMosaic Idealize.ShloMosaic.Tactic Idealize.ShloMosaic.TcCoe Cert.MlpDownDwIdeal Cert.MlpDownDwIdeal.Gen

theorem idx0 : ∀ t : Fin grid0.N, win0_0.index t = ![t.val % 2, t.val / 2 / 2] := by decide +kernel
theorem idx1 : ∀ t : Fin grid0.N, win0_1.index t = ![t.val % 2, t.val / 2 % 2] := by decide +kernel

variable (m : (ℓ : Loc nD τ sig) → Buf (Elt Ideal) ℓ) (c : Dev nD)

/-- The two factors. -/
abbrev lhs : Ssd.Arr ![4096, 8192] := m ((c : Thread nD τ).loc main_arg0)
abbrev rhs : Ssd.Arr ![4096, 2048] := m ((c : Thread nD τ).loc main_arg1)

theorem points (t : Fin cfg0.N) : t.val < 32 := lt_of_lt_of_eq t.isLt N_0

theorem blk0 (t : Fin cfg0.N) (k : Fin 2048) (r : Fin 1024) : iblk m c 0 t (ix2 k r)
    = Prod2.entry (lhs m c) (2048 * (t.val % 2) + k.val) (1024 * (t.val / 2 / 2) + r.val) := by
  have := points t
  rw [← Prod2.entry_at _ _ _ (by omega) (by omega)]
  blk_simp [iblk]
  rw [V_main_arg0]
  refine congrArg _ ?_
  blk_ext [idx0]

theorem blk1 (t : Fin cfg0.N) (k : Fin 2048) (s : Fin 1024) : iblk m c 1 t (ix2 k s)
    = Prod2.entry (rhs m c) (2048 * (t.val % 2) + k.val) (1024 * (t.val / 2 % 2) + s.val) := by
  have := points t
  rw [← Prod2.entry_at _ _ _ (by omega) (by omega)]
  blk_simp [iblk]
  rw [V_main_arg1]
  refine congrArg _ ?_
  blk_ext [idx1]

/-- The terms of one entry of the result, by the number of its block. -/
def term (r s : Fin 1024) (b x : ℕ) : EReal :=
  HMul.hMul (α := EReal) (β := EReal) (γ := EReal) (Prod2.entry (lhs m c) x (1024 * (b / 2) + r.val))
    (Prod2.entry (rhs m c) x (1024 * (b % 2) + s.val))

/-- The product of a point's two blocks. -/
theorem part (t : Fin cfg0.N) (r s : Fin 1024) : k0_pay1 (F := Ideal) (iblk m c 0 t) (iblk m c 1 t) (ix2 r s)
    = ∑ y : Fin 2048, term m c r s (t.val / 2) (2048 * (t.val % 2) + y.val) := by
  pointwise [k0_pay1]
  refine Finset.sum_congr rfl fun y _ => ?_
  rw [blk0, blk1]
  rfl

/-- What the first step leaves in the carried sum. -/
theorem left_first (t : Fin cfg0.N) (h0 : t.val % 2 = 0) :
    (outsAt0 m c t.val t.isLt).2 = k0_pay2 (F := Ideal) (iblk m c 0 t) (iblk m c 1 t) := by
  rw [outsAt0_A m c t h0 (by omega)]
  dsimp only [sout0_A_0]
  rw [View.read_writes_junk_eq_canon (Val := Elt Ideal)]
  unfold kernelRun0_A
  dsimp only
  sl_unfold_words
  simp only [View.readAt_eq_ld, (hs0_0 t).read_unread, (hs0_1 t).read_unread]
  rw [View.canon_unit_zero Prod2.zero2, View.ld_unit_zero Prod2.zero2, View.ld_unit_zero Prod2.zero2]

/-- What the last step leaves in the result's block. -/
theorem out_last (t : Fin cfg0.N) (h2 : t.val % 2 = 1) :
    (outsAt0 m c t.val t.isLt).1 = k0_pay4 (F := Ideal) (iblk m c 0 t) (iblk m c 1 t)
      (outsAt0 m c (t.val - 1) (Nat.lt_of_le_of_lt (Nat.sub_le _ _) t.isLt)).2 := by
  rw [outsAt0_B m c t (by omega) h2]
  dsimp only [out0_B_2]
  rw [View.read_writes_junk_eq_canon (Val := Elt Ideal)]
  unfold kernelRun0_B
  dsimp only
  sl_unfold_words
  simp only [View.readAt_eq_ld, (hs0_0 t).read_unread, (hs0_1 t).read_unread, (Memref.isWhole_whole cc0_scratch0).read_unread]
  rw [View.canon_unit_zero Prod2.zero2, View.ld_unit_zero Prod2.zero2, View.ld_unit_zero Prod2.zero2, View.ld_unit_zero Prod2.zero2]

/-- An entry of the result, by the point that writes it. -/
theorem out_at (t : Fin cfg0.N) (h2 : t.val % 2 = 1) (r s : Fin 1024) :
    (outsAt0 m c t.val t.isLt).1 (ix2 r s) = ∑ x : Fin 4096, term m c r s (t.val / 2) x.val := by
  rw [out_last m c t h2]
  have p4 : ∀ a : Vec Ideal S1024x1024 .f32, k0_pay4 (iblk m c 0 t) (iblk m c 1 t) a (ix2 r s)
      = HAdd.hAdd (α := EReal) (β := EReal) (γ := EReal) (a (ix2 r s)) (k0_pay1 (F := Ideal) (iblk m c 0 t) (iblk m c 1 t) (ix2 r s)) := fun a => by
    pointwise [k0_pay4]
  rw [p4, part]
  refine Prod2.total (nk := 2) (tk := 2048) (fun n h => (outsAt0 m c n h).2 (ix2 r s)) (term m c r s) (fun n h h0 => ?_)
    (fun n h h0 h1 => by omega) t.isLt (by omega) (by omega)
  rw [← part m c ⟨n, h⟩ r s]
  refine (congrFun (left_first m c ⟨n, h⟩ h0) _).trans ?_
  pointwise [k0_pay2]

/-- The result is the product. -/
theorem array (i : Fin 8192) (j : Fin 2048) : ((dats m 0 c).arrAt 2 cfg0.N : Ssd.Arr ![8192, 2048]) (ix2 i j)
    = ∑ x : Fin 4096, HMul.hMul (α := EReal) (β := EReal) (γ := EReal) (lhs m c (ix2 x i)) (rhs m c (ix2 x j)) := by
  have hi := i.isLt
  have hj := j.isLt
  have hp : Value.pt2Of (ix2 i j) < cfg0.N := lt_of_lt_of_eq (b := 32) (by show 2 * (2 * (i.val / 1024 - 0) + 1 * (j.val / 1024 - 0)) + 1 < 32; omega) N_0.symm
  rw [Value.final2]
  unfold Value.G2
  rw [dif_pos hp, ← Value.outsAt0_sweep m c _ hp]
  have e : Value.pt2Of (ix2 i j) = 2 * (2 * (i.val / 1024) + j.val / 1024) + 1 := by
    show 2 * (2 * (i.val / 1024 - 0) + 1 * (j.val / 1024 - 0)) + 1 = _
    omega
  have el : Value.loc2Of (ix2 i j) = ix2 ⟨i.val % 1024, Nat.mod_lt _ (by decide)⟩ ⟨j.val % 1024, Nat.mod_lt _ (by decide)⟩ := by
    funext a; fin_cases a <;> rfl
  rw [el]
  refine (out_at m c ⟨_, hp⟩ (by dsimp only; omega) _ _).trans (Finset.sum_congr rfl fun x _ => ?_)
  unfold term
  dsimp only
  rw [← Prod2.entry_of (lhs m c), ← Prod2.entry_of (rhs m c)]
  congr 2 <;> omega

end Cert.MlpDownDwIdeal.Block

namespace Cert.Proof.DownWeights

open Idealize.ShloMosaic Idealize.ShloMosaic.Tactic Idealize.SL.Sem

/-- The kernel runs on the machine's numbers. -/
theorem kernel_frame [Cert.MlpDownDw.Facts] : Cert.quiescent_MlpDownDw := fun m g _ => Cert.MlpDownDw.Gen.frame m g

/-- The kernel runs on the ideal numbers. -/
theorem ideal_frame [Cert.MlpDownDwIdeal.Facts] : Cert.quiescent_MlpDownDwIdeal := fun m g _ => Cert.MlpDownDwIdeal.Gen.frame m g

/-- The reference program declares no semaphore. -/
theorem no_sem (s : GSem Cert.MlpDownDwRefIdeal.nD Cert.MlpDownDwRefIdeal.τ Cert.MlpDownDwRefIdeal.sig → Int) : s = fun _ => 0 := by
  funext ⟨_, l⟩
  cases l with
  | reg i => exact i.elim0
  | dma i => exact i.elim0

/-- The reference program runs. -/
theorem reference_frame : Cert.quiescent_MlpDownDwRefIdeal := fun m g _ =>
  (θ_run (Cert.MlpDownDwRefIdeal.defs (F := Ideal)) _ _).mono (fun r h => ⟨fun c => ⟨(h c).2.1, (h c).2.2⟩, no_sem _⟩)
    (Cert.MlpDownDwRefIdeal.Value.run m g)

/-- The reference's product, entry by entry. -/
theorem reference_at (a : Ssd.Arr ![4096, 8192]) (b : Ssd.Arr ![4096, 2048]) (i : Fin 8192) (j : Fin 2048) :
    transpose Cert.MlpDownDwRefIdeal.S8192x2048 [1, 0] (Host.dotGeneral (F := Ideal) (φ₁ := .f32) (φ₂ := .f32)
      Cert.MlpDownDwRefIdeal.dot_S4096x2048_S4096x8192_S2048x8192_0_0_1_1_n_n none b a) Cert.MlpDownDwRefIdeal.Facts₀.transposes_S2048x8192_S8192x2048_1_0 (ix2 i j)
    = ∑ x : Fin 4096, HMul.hMul (α := EReal) (β := EReal) (γ := EReal) (a (ix2 x i)) (b (ix2 x j)) := by
  pointwise
  exact Finset.sum_congr rfl fun x _ => mul_comm _ _

/-- Both programs run and end with equal results. -/
theorem algebraic [Cert.MlpDownDwIdeal.Facts] [Cert.MlpDownDwRefIdeal.Facts] : Cert.algebraic_MlpDownDwIdeal_MlpDownDwRefIdeal := by
  intro m g m' g' _ ha
  refine ⟨fun c => (Cert.MlpDownDwIdeal.Gen.dats m 0 c).arrAt 2 Cert.MlpDownDwIdeal.cfg0.N,
    (θ_run (Cert.MlpDownDwIdeal.defs (F := Ideal)) _ _).mono (fun r h c => h c) (Cert.MlpDownDwIdeal.Value.run_blocks m g),
    (θ_run (Cert.MlpDownDwRefIdeal.defs (F := Ideal)) _ _).mono (fun r h c => ⟨(h c).1.trans ?_, (h c).2⟩) (Cert.MlpDownDwRefIdeal.Value.run m' g')⟩
  obtain ⟨e0, e1⟩ := ha c
  rw [e0, e1]
  refine funext fun y => ?_
  rw [← ix2_eta y]
  exact (reference_at _ _ _ _).trans (Cert.MlpDownDwIdeal.Block.array m c _ _).symm

end Cert.Proof.DownWeights

end
-- ==== Proof.UpInputs.lean ====
/- The gradient of the MLP's inputs: what the kernel leaves in its result is the product of the gradient and the transposed
   weights, with the residual's scaled gradient added, and so is what the reference leaves in its own. -/
module

public import proofs.«01_k».proof.Defs
public import proofs.«01_k».proof.Proof.Products
public import proofs.«01_k».proof.Proof.Gen.MlpUpDx.Frame
public import proofs.«01_k».proof.Proof.Gen.MlpUpDxIdeal.Value
public import proofs.«01_k».proof.Proof.Gen.MlpUpDxRefIdeal.Run
public import Idealize.ShloMosaic.Lib.Pipeline.ValueKit
public import Idealize.ShloMosaic.Lib.StableHlo.ReadAt

@[expose] public section

set_option maxRecDepth 16384

noncomputable section

namespace Cert.MlpUpDxIdeal.Block

open Idealize.ShloMosaic Idealize.ShloMosaic.Tactic Idealize.ShloMosaic.TcCoe Cert.MlpUpDxIdeal Cert.MlpUpDxIdeal.Gen

theorem idx0 : ∀ t : Fin grid0.N, win0_0.index t = ![t.val / 8 / 2, t.val % 8] := by decide +kernel
theorem idx1 : ∀ t : Fin grid0.N, win0_1.index t = ![t.val % 8, t.val / 8 % 2, 0] := by decide +kernel
theorem idx2 : ∀ t : Fin grid0.N, win0_2.index t = ![t.val / 8 / 2, t.val / 8 % 2] := by decide +kernel

variable (m : (ℓ : Loc nD τ sig) → Buf (Elt Ideal) ℓ) (c : Dev nD)

/-- The two factors and what is added. -/
abbrev lhs : Ssd.Arr ![4096, 8192] := m ((c : Thread nD τ).loc main_arg0)
abbrev rhs : Ssd.Arr ![2048, 8192] := m ((c : Thread nD τ).loc main_arg1)
abbrev res : Ssd.Arr ![4096, 2048] := m ((c : Thread nD τ).loc main_arg2)

theorem points (t : Fin cfg0.N) : t.val < 64 := lt_of_lt_of_eq t.isLt N_0

/-- The host lays the weights' columns in eight slabs. -/
theorem slabs (d : Fin 8) (i : Fin 2048) (j : Fin 1024) : (V m c main_v1 : Ssd.Arr ![8, 2048, 1024]) (ix3 d i j)
    = rhs m c (ix2 i ⟨1024 * d.val + j.val, by omega⟩) := by
  simp only [V, hostOps0, List.flatten_cons, List.flatten_nil, List.append_nil, List.cons_append, List.nil_append]
  after_reads_at
  refine congrArg (fun k => rhs m c (ix2 i k)) (Fin.ext ?_)
  show d.val * 1024 + j.val = 1024 * d.val + j.val
  omega

theorem blk0 (t : Fin cfg0.N) (r : Fin 1024) (k : Fin 1024) : iblk m c 0 t (ix2 r k)
    = Prod2.entry (lhs m c) (1024 * (t.val / 8 / 2) + r.val) (1024 * (t.val % 8) + k.val) := by
  have := points t
  rw [← Prod2.entry_at _ _ _ (by omega) (by omega)]
  blk_simp [iblk]
  rw [V_main_arg0]
  refine congrArg _ ?_
  blk_ext [idx0]

theorem blk1 (t : Fin cfg0.N) (s k : Fin 1024) : iblk m c 1 t (ix3 0 s k)
    = Prod2.entry (rhs m c) (1024 * (t.val / 8 % 2) + s.val) (1024 * (t.val % 8) + k.val) := by
  have := points t
  rw [← Prod2.entry_at _ _ _ (by omega) (by omega)]
  refine Eq.trans ?_ (slabs m c ⟨t.val % 8, by omega⟩ ⟨1024 * (t.val / 8 % 2) + s.val, by omega⟩ k)
  blk_simp [iblk]
  refine congrArg _ ?_
  blk_ext [idx1]

theorem blk2 (t : Fin cfg0.N) (r s : Fin 1024) : iblk m c 2 t (ix2 r s)
    = Prod2.entry (res m c) (1024 * (t.val / 8 / 2) + r.val) (1024 * (t.val / 8 % 2) + s.val) := by
  have := points t
  rw [← Prod2.entry_at _ _ _ (by omega) (by omega)]
  blk_simp [iblk]
  rw [V_main_arg2]
  refine congrArg _ ?_
  blk_ext [idx2]

/-- The terms of one entry of the product, by the number of its block. -/
def term (r s : Fin 1024) (b x : ℕ) : EReal :=
  HMul.hMul (α := EReal) (β := EReal) (γ := EReal) (Prod2.entry (lhs m c) (1024 * (b / 2) + r.val) x)
    (Prod2.entry (rhs m c) (1024 * (b % 2) + s.val) x)

/-- The product of a point's two blocks. -/
theorem part (t : Fin cfg0.N) (r s : Fin 1024) : k0_pay1 (F := Ideal) (iblk m c 0 t) (iblk m c 1 t) (ix2 r s)
    = ∑ y : Fin 1024, term m c r s (t.val / 8) (1024 * (t.val % 8) + y.val) := by
  pointwise [k0_pay1]
  refine Finset.sum_congr rfl fun y _ => ?_
  rw [blk0, blk1]
  rfl

theorem pay3_at (x0 : Vec Ideal S1024x1024 .bf16) (x1 : Vec Ideal S1x1024x1024 .bf16) (a : Vec Ideal S1024x1024 .f32) (r s : Fin 1024) :
    k0_pay3 x0 x1 a (ix2 r s) = HAdd.hAdd (α := EReal) (β := EReal) (γ := EReal) (a (ix2 r s)) (k0_pay1 x0 x1 (ix2 r s)) := by
  pointwise [k0_pay3]

/-- What the first step leaves in the carried sum. -/
theorem left_first (t : Fin cfg0.N) (h0 : t.val % 8 = 0) :
    (outsAt0 m c t.val t.isLt).2 = k0_pay2 (F := Ideal) (iblk m c 0 t) (iblk m c 1 t) := by
  rw [outsAt0_A m c t h0 (by omega) (by omega)]
  dsimp only [sout0_A_0]
  rw [View.read_writes_junk_eq_canon (Val := Elt Ideal)]
  unfold kernelRun0_A
  dsimp only
  sl_unfold_words
  simp only [View.readAt_eq_ld, (hs0_0 t).read_unread, (hs0_1 t).read_unread]
  rw [View.canon_unit_zero Prod2.zero2, View.ld_unit_zero Prod2.zero2, View.ld_unit_zero Prod2.zero3]

/-- What a step between leaves in it. -/
theorem left_later (t : Fin cfg0.N) (h0 : t.val % 8 ≠ 0) (h1 : t.val % 8 + 1 < 8) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 (by omega) (by omega)]
  dsimp only [sout0_B_0]
  rw [View.read_writes_junk_eq_canon (Val := Elt Ideal)]
  unfold kernelRun0_B
  dsimp only
  sl_unfold_words
  simp only [View.readAt_eq_ld, (hs0_0 t).read_unread, (hs0_1 t).read_unread, (Memref.isWhole_whole cc0_scratch0).read_unread]
  rw [View.canon_unit_zero Prod2.zero2, View.ld_unit_zero Prod2.zero2, View.ld_unit_zero Prod2.zero3, View.ld_unit_zero Prod2.zero2]

/-- What the last step leaves in the result's block. -/
theorem out_last (t : Fin cfg0.N) (h2 : t.val % 8 = 7) :
    (outsAt0 m c t.val t.isLt).1 = k0_pay4 (F := Ideal) (iblk m c 0 t) (iblk m c 1 t)
      (outsAt0 m c (t.val - 1) (Nat.lt_of_le_of_lt (Nat.sub_le _ _) t.isLt)).2 (iblk m c 2 t) := by
  rw [outsAt0_C m c t (by omega) (by omega) h2]
  dsimp only [out0_C_3]
  rw [View.read_writes_junk_eq_canon (Val := Elt Ideal)]
  unfold kernelRun0_C
  dsimp only
  sl_unfold_words
  simp only [View.readAt_eq_ld, (hs0_0 t).read_unread, (hs0_1 t).read_unread, (hs0_2 t).read_unread, (Memref.isWhole_whole cc0_scratch0).read_unread]
  rw [View.canon_unit_zero Prod2.zero2, View.ld_unit_zero Prod2.zero2, View.ld_unit_zero Prod2.zero3, View.ld_unit_zero Prod2.zero2,
    View.ld_unit_zero Prod2.zero2]

/-- An entry of the result, by the point that writes it. -/
theorem out_at (t : Fin cfg0.N) (h2 : t.val % 8 = 7) (r s : Fin 1024) :
    (outsAt0 m c t.val t.isLt).1 (ix2 r s) = HAdd.hAdd (α := EReal) (β := EReal) (γ := EReal) (∑ x : Fin 8192, term m c r s (t.val / 8) x.val)
      (HMul.hMul (α := EReal) (β := EReal) (γ := EReal) (FloatOps.ofBits (F := Ideal) .f32 0x3FD744FD#32)
        (Prod2.entry (res m c) (1024 * (t.val / 8 / 2) + r.val) (1024 * (t.val / 8 % 2) + s.val))) := by
  rw [out_last m c t h2]
  have p4 : ∀ a : Vec Ideal S1024x1024 .f32, k0_pay4 (iblk m c 0 t) (iblk m c 1 t) a (iblk m c 2 t) (ix2 r s)
      = HAdd.hAdd (α := EReal) (β := EReal) (γ := EReal)
        (HAdd.hAdd (α := EReal) (β := EReal) (γ := EReal) (a (ix2 r s)) (k0_pay1 (F := Ideal) (iblk m c 0 t) (iblk m c 1 t) (ix2 r s)))
        (HMul.hMul (α := EReal) (β := EReal) (γ := EReal) (FloatOps.ofBits (F := Ideal) .f32 0x3FD744FD#32) (iblk m c 2 t (ix2 r s))) := fun a => by
    pointwise [k0_pay4]
  rw [p4, part, blk2]
  refine congrArg (· + _) ?_
  refine Prod2.total (nk := 8) (tk := 1024) (fun n h => (outsAt0 m c n h).2 (ix2 r s)) (term m c r s) (fun n h h0 => ?_) (fun n h h0 h1 => ?_)
    t.isLt (by omega) (by omega)
  · rw [← part m c ⟨n, h⟩ r s]
    refine (congrFun (left_first m c ⟨n, h⟩ h0) _).trans ?_
    pointwise [k0_pay2]
  · rw [← part m c ⟨n, h⟩ r s, ← pay3_at]
    exact congrFun (left_later m c ⟨n, h⟩ h0 h1) _

/-- The result is the product and the scaled residual. -/
theorem array (i : Fin 4096) (j : Fin 2048) : ((dats m 0 c).arrAt 3 cfg0.N : Ssd.Arr ![4096, 2048]) (ix2 i j)
    = HAdd.hAdd (α := EReal) (β := EReal) (γ := EReal)
      (∑ x : Fin 8192, HMul.hMul (α := EReal) (β := EReal) (γ := EReal) (lhs m c (ix2 i x)) (rhs m c (ix2 j x)))
      (HMul.hMul (α := EReal) (β := EReal) (γ := EReal) (FloatOps.ofBits (F := Ideal) .f32 0x3FD744FD#32) (res m c (ix2 i j))) := by
  have hi := i.isLt
  have hj := j.isLt
  have e : Value.pt3Of (ix2 i j) = 8 * (2 * (i.val / 1024) + j.val / 1024) + 7 := by
    show 8 * (2 * (i.val / 1024 - 0) + 1 * (j.val / 1024 - 0)) + 7 = _
    omega
  have hp : Value.pt3Of (ix2 i j) < cfg0.N := lt_of_lt_of_eq (b := 64) (by omega) N_0.symm
  rw [Value.final3]
  unfold Value.G3
  rw [dif_pos hp, ← Value.outsAt0_sweep m c _ hp]
  have el : Value.loc3Of (ix2 i j) = ix2 ⟨i.val % 1024, Nat.mod_lt _ (by decide)⟩ ⟨j.val % 1024, Nat.mod_lt _ (by decide)⟩ := by
    funext a; fin_cases a <;> rfl
  rw [el]
  refine (out_at m c ⟨_, hp⟩ (by dsimp only; omega) _ _).trans (congrArg₂ _ (Finset.sum_congr rfl fun x _ => ?_) (congrArg _ ?_))
  · unfold term
    dsimp only
    rw [← Prod2.entry_of (lhs m c), ← Prod2.entry_of (rhs m c)]
    congr 2 <;> omega
  · rw [← Prod2.entry_of (res m c)]
    dsimp only
    congr 1 <;> omega

end Cert.MlpUpDxIdeal.Block

namespace Cert.Proof.UpInputs

open Idealize.ShloMosaic Idealize.ShloMosaic.Tactic Idealize.SL.Sem

/-- The kernel runs on the machine's numbers. -/
theorem kernel_frame [Cert.MlpUpDx.Facts] : Cert.quiescent_MlpUpDx := fun m g _ => Cert.MlpUpDx.Gen.frame m g

/-- The kernel runs on the ideal numbers. -/
theorem ideal_frame [Cert.MlpUpDxIdeal.Facts] : Cert.quiescent_MlpUpDxIdeal := fun m g _ => Cert.MlpUpDxIdeal.Gen.frame m g

/-- The reference program declares no semaphore. -/
theorem no_sem (s : GSem Cert.MlpUpDxRefIdeal.nD Cert.MlpUpDxRefIdeal.τ Cert.MlpUpDxRefIdeal.sig → Int) : s = fun _ => 0 := by
  funext ⟨_, l⟩
  cases l with
  | reg i => exact i.elim0
  | dma i => exact i.elim0

/-- The reference program runs. -/
theorem reference_frame : Cert.quiescent_MlpUpDxRefIdeal := fun m g _ =>
  (θ_run (Cert.MlpUpDxRefIdeal.defs (F := Ideal)) _ _).mono (fun r h => ⟨fun c => ⟨(h c).2.1, (h c).2.2.1, (h c).2.2.2⟩, no_sem _⟩)
    (Cert.MlpUpDxRefIdeal.Value.run m g)

/-- The reference's result, entry by entry. -/
theorem reference_at (a : Ssd.Arr ![4096, 8192]) (b : Ssd.Arr ![2048, 8192]) (e : Ssd.Arr ![4096, 2048]) (i : Fin 4096) (j : Fin 2048) :
    addf (F := Ideal) (φ := .f32) (Host.dotGeneral (F := Ideal) (φ₁ := .f32) (φ₂ := .f32) Cert.MlpUpDxRefIdeal.dot_S4096x8192_S2048x8192_S4096x2048_1_1_0_0_n_n none a b)
      (mulf (F := Ideal) (φ := .f32) (broadcastInDim Cert.MlpUpDxRefIdeal.S4096x2048 ![] Cert.MlpUpDxRefIdeal.Facts₀.bcast_S_S4096x2048
        (constant Cert.MlpUpDxRefIdeal.S_ .f32 0x3FD744FD#32)) e) (ix2 i j)
    = HAdd.hAdd (α := EReal) (β := EReal) (γ := EReal)
      (∑ x : Fin 8192, HMul.hMul (α := EReal) (β := EReal) (γ := EReal) (a (ix2 i x)) (b (ix2 j x)))
      (HMul.hMul (α := EReal) (β := EReal) (γ := EReal) (FloatOps.ofBits (F := Ideal) .f32 0x3FD744FD#32) (e (ix2 i j))) := by
  pointwise

/-- Both programs run and end with equal results. -/
theorem algebraic [Cert.MlpUpDxIdeal.Facts] [Cert.MlpUpDxRefIdeal.Facts] : Cert.algebraic_MlpUpDxIdeal_MlpUpDxRefIdeal := by
  intro m g m' g' _ ha
  refine ⟨fun c => (Cert.MlpUpDxIdeal.Gen.dats m 0 c).arrAt 3 Cert.MlpUpDxIdeal.cfg0.N,
    (θ_run (Cert.MlpUpDxIdeal.defs (F := Ideal)) _ _).mono (fun r h c => h c) (Cert.MlpUpDxIdeal.Value.run_blocks m g),
    (θ_run (Cert.MlpUpDxRefIdeal.defs (F := Ideal)) _ _).mono (fun r h c => ⟨(h c).1.trans ?_, (h c).2⟩) (Cert.MlpUpDxRefIdeal.Value.run m' g')⟩
  obtain ⟨e0, e1, e2⟩ := ha c
  rw [e0, e1, e2]
  refine funext fun y => ?_
  rw [← ix2_eta y]
  exact (reference_at _ _ _ _ _).trans (Cert.MlpUpDxIdeal.Block.array m c _ _).symm

end Cert.Proof.UpInputs

end
-- ==== Proof.UpWeights.lean ====
/- The gradient of the MLP's first weights: what the kernel leaves in its result is the product of the transposed inputs
   and the gradient, its columns in eight slabs, and so is what the reference leaves in its own. -/
module

public import proofs.«01_k».proof.Defs
public import proofs.«01_k».proof.Proof.Products
public import proofs.«01_k».proof.Proof.Gen.MlpUpDw.Frame
public import proofs.«01_k».proof.Proof.Gen.MlpUpDwIdeal.Value
public import proofs.«01_k».proof.Proof.Gen.MlpUpDwRefIdeal.Run
public import Idealize.ShloMosaic.Lib.Pipeline.ValueKit

@[expose] public section

set_option maxRecDepth 16384

noncomputable section

namespace Cert.MlpUpDwIdeal.Block

open Idealize.ShloMosaic Idealize.ShloMosaic.Tactic Idealize.ShloMosaic.TcCoe Cert.MlpUpDwIdeal Cert.MlpUpDwIdeal.Gen

theorem idx0 : ∀ t : Fin grid0.N, win0_0.index t = ![t.val % 2, t.val / 2 / 8] := by decide +kernel
theorem idx1 : ∀ t : Fin grid0.N, win0_1.index t = ![t.val % 2, t.val / 2 % 8] := by decide +kernel

variable (m : (ℓ : Loc nD τ sig) → Buf (Elt Ideal) ℓ) (c : Dev nD)

/-- The two factors. -/
abbrev lhs : Ssd.Arr ![4096, 2048] := m ((c : Thread nD τ).loc main_arg0)
abbrev rhs : Ssd.Arr ![4096, 8192] := m ((c : Thread nD τ).loc main_arg1)

theorem points (t : Fin cfg0.N) : t.val < 32 := lt_of_lt_of_eq t.isLt N_0

theorem blk0 (t : Fin cfg0.N) (k : Fin 2048) (r : Fin 1024) : iblk m c 0 t (ix2 k r)
    = Prod2.entry (lhs m c) (2048 * (t.val % 2) + k.val) (1024 * (t.val / 2 / 8) + r.val) := by
  have := points t
  rw [← Prod2.entry_at _ _ _ (by omega) (by omega)]
  blk_simp [iblk]
  rw [V_main_arg0]
  refine congrArg _ ?_
  blk_ext [idx0]

theorem blk1 (t : Fin cfg0.N) (k : Fin 2048) (s : Fin 1024) : iblk m c 1 t (ix2 k s)
    = Prod2.entry (rhs m c) (2048 * (t.val % 2) + k.val) (1024 * (t.val / 2 % 8) + s.val) := by
  have := points t
  rw [← Prod2.entry_at _ _ _ (by omega) (by omega)]
  blk_simp [iblk]
  rw [V_main_arg1]
  refine congrArg _ ?_
  blk_ext [idx1]

/-- The terms of one entry of the result, by the number of its block. -/
def term (r s : Fin 1024) (b x : ℕ) : EReal :=
  HMul.hMul (α := EReal) (β := EReal) (γ := EReal) (Prod2.entry (lhs m c) x (1024 * (b / 8) + r.val))
    (Prod2.entry (rhs m c) x (1024 * (b % 8) + s.val))

/-- The product of a point's two blocks. -/
theorem part (t : Fin cfg0.N) (r s : Fin 1024) : k0_pay1 (F := Ideal) (iblk m c 0 t) (iblk m c 1 t) (ix2 r s)
    = ∑ y : Fin 2048, term m c r s (t.val / 2) (2048 * (t.val % 2) + y.val) := by
  pointwise [k0_pay1]
  refine Finset.sum_congr rfl fun y _ => ?_
  rw [blk0, blk1]
  rfl

/-- What the first step leaves in the carried sum. -/
theorem left_first (t : Fin cfg0.N) (h0 : t.val % 2 = 0) :
    (outsAt0 m c t.val t.isLt).2 = k0_pay2 (F := Ideal) (iblk m c 0 t) (iblk m c 1 t) := by
  rw [outsAt0_A m c t h0 (by omega)]
  dsimp only [sout0_A_0]
  rw [View.read_writes_junk_eq_canon (Val := Elt Ideal)]
  unfold kernelRun0_A
  dsimp only
  sl_unfold_words
  simp only [View.readAt_eq_ld, (hs0_0 t).read_unread, (hs0_1 t).read_unread]
  rw [View.canon_unit_zero Prod2.zero2, View.ld_unit_zero Prod2.zero2, View.ld_unit_zero Prod2.zero2]

/-- What the last step leaves in the result's block. -/
theorem out_last (t : Fin cfg0.N) (h2 : t.val % 2 = 1) :
    (outsAt0 m c t.val t.isLt).1 = k0_pay4 (F := Ideal) (iblk m c 0 t) (iblk m c 1 t)
      (outsAt0 m c (t.val - 1) (Nat.lt_of_le_of_lt (Nat.sub_le _ _) t.isLt)).2 := by
  rw [outsAt0_B m c t (by omega) h2]
  dsimp only [out0_B_2]
  rw [View.read_writes_junk_eq_canon (Val := Elt Ideal)]
  unfold kernelRun0_B
  dsimp only
  sl_unfold_words
  simp only [View.readAt_eq_ld, (hs0_0 t).read_unread, (hs0_1 t).read_unread, (Memref.isWhole_whole cc0_scratch0).read_unread]
  rw [View.canon_unit_zero Prod2.zero3, View.ld_unit_zero Prod2.zero2, View.ld_unit_zero Prod2.zero2, View.ld_unit_zero Prod2.zero2]

/-- An entry of the result, by the point that writes it. -/
theorem out_at (t : Fin cfg0.N) (h2 : t.val % 2 = 1) (r s : Fin 1024) :
    (outsAt0 m c t.val t.isLt).1 (ix3 0 r s) = ∑ x : Fin 4096, term m c r s (t.val / 2) x.val := by
  rw [out_last m c t h2]
  have p4 : ∀ a : Vec Ideal S1024x1024 .f32, k0_pay4 (iblk m c 0 t) (iblk m c 1 t) a (ix3 0 r s)
      = HAdd.hAdd (α := EReal) (β := EReal) (γ := EReal) (a (ix2 r s)) (k0_pay1 (F := Ideal) (iblk m c 0 t) (iblk m c 1 t) (ix2 r s)) := fun a => by
    pointwise [k0_pay4]
  rw [p4, part]
  refine Prod2.total (nk := 2) (tk := 2048) (fun n h => (outsAt0 m c n h).2 (ix2 r s)) (term m c r s) (fun n h h0 => ?_)
    (fun n h h0 h1 => by omega) t.isLt (by omega) (by omega)
  rw [← part m c ⟨n, h⟩ r s]
  refine (congrFun (left_first m c ⟨n, h⟩ h0) _).trans ?_
  pointwise [k0_pay2]

/-- The result is the product, column `1024 d + j` in slab `d`. -/
theorem array (d : Fin 8) (i : Fin 2048) (j : Fin 1024) : ((dats m 0 c).arrAt 2 cfg0.N : Ssd.Arr ![8, 2048, 1024]) (ix3 d i j)
    = ∑ x : Fin 4096, HMul.hMul (α := EReal) (β := EReal) (γ := EReal) (lhs m c (ix2 x i)) (rhs m c (ix2 x ⟨1024 * d.val + j.val, by omega⟩)) := by
  have hd := d.isLt
  have hi := i.isLt
  have hj := j.isLt
  have e : Value.pt2Of (ix3 d i j) = 2 * (8 * (i.val / 1024) + d.val) + 1 := by
    show 2 * (1 * (d.val / 1 - 0) + 8 * (i.val / 1024 - 0) + 16 * (j.val / 1024 - 0)) + 1 = _
    omega
  have hp : Value.pt2Of (ix3 d i j) < cfg0.N := lt_of_lt_of_eq (b := 32) (by omega) N_0.symm
  rw [Value.final2]
  unfold Value.G2
  rw [dif_pos hp, ← Value.outsAt0_sweep m c _ hp]
  have el : Value.loc2Of (ix3 d i j) = ix3 0 ⟨i.val % 1024, Nat.mod_lt _ (by decide)⟩ j := by
    funext a
    fin_cases a
    · exact Fin.ext (Nat.mod_one _)
    · rfl
    · exact Fin.ext (Nat.mod_eq_of_lt hj)
  rw [el]
  refine (out_at m c ⟨_, hp⟩ (by dsimp only; omega) _ _).trans (Finset.sum_congr rfl fun x _ => ?_)
  unfold term
  dsimp only
  rw [← Prod2.entry_of (lhs m c), ← Prod2.entry_of (rhs m c)]
  dsimp only
  congr 2 <;> omega

end Cert.MlpUpDwIdeal.Block

namespace Cert.Proof.UpWeights

open Idealize.ShloMosaic Idealize.ShloMosaic.Tactic Idealize.SL.Sem

/-- The kernel runs on the machine's numbers. -/
theorem kernel_frame [Cert.MlpUpDw.Facts] : Cert.quiescent_MlpUpDw := fun m g _ => Cert.MlpUpDw.Gen.frame m g

/-- The kernel runs on the ideal numbers. -/
theorem ideal_frame [Cert.MlpUpDwIdeal.Facts] : Cert.quiescent_MlpUpDwIdeal := fun m g _ => Cert.MlpUpDwIdeal.Gen.frame m g

/-- The reference program declares no semaphore. -/
theorem no_sem (s : GSem Cert.MlpUpDwRefIdeal.nD Cert.MlpUpDwRefIdeal.τ Cert.MlpUpDwRefIdeal.sig → Int) : s = fun _ => 0 := by
  funext ⟨_, l⟩
  cases l with
  | reg i => exact i.elim0
  | dma i => exact i.elim0

/-- The reference program runs. -/
theorem reference_frame : Cert.quiescent_MlpUpDwRefIdeal := fun m g _ =>
  (θ_run (Cert.MlpUpDwRefIdeal.defs (F := Ideal)) _ _).mono (fun r h => ⟨fun c => ⟨(h c).2.1, (h c).2.2⟩, no_sem _⟩)
    (Cert.MlpUpDwRefIdeal.Value.run m g)

/-- The reference's product, entry by entry. -/
theorem reference_at (a : Ssd.Arr ![4096, 2048]) (b : Ssd.Arr ![4096, 8192]) (d : Fin 8) (i : Fin 2048) (j : Fin 1024) :
    transpose Cert.MlpUpDwRefIdeal.S8x2048x1024 [1, 0, 2] (shapeCast Cert.MlpUpDwRefIdeal.S2048x8x1024 (transpose Cert.MlpUpDwRefIdeal.S2048x8192 [1, 0]
      (Host.dotGeneral (F := Ideal) (φ₁ := .f32) (φ₂ := .f32) Cert.MlpUpDwRefIdeal.dot_S4096x8192_S4096x2048_S8192x2048_0_0_1_1_n_n none b a)
      Cert.MlpUpDwRefIdeal.Facts₀.transposes_S8192x2048_S2048x8192_1_0) Cert.MlpUpDwRefIdeal.Facts₀.shapeCasts_S2048x8192_S2048x8x1024)
      Cert.MlpUpDwRefIdeal.Facts₀.transposes_S2048x8x1024_S8x2048x1024_1_0_2 (ix3 d i j)
    = ∑ x : Fin 4096, HMul.hMul (α := EReal) (β := EReal) (γ := EReal) (a (ix2 x i)) (b (ix2 x ⟨1024 * d.val + j.val, by omega⟩)) := by
  pointwise
  refine Finset.sum_congr rfl fun x _ => (mul_comm _ _).trans ?_
  refine congrArg (fun k => HMul.hMul (α := EReal) (β := EReal) (γ := EReal) (a (ix2 x i)) (b (ix2 x k))) (Fin.ext ?_)
  show d.val * 1024 + j.val = 1024 * d.val + j.val
  omega

/-- Both programs run and end with equal results. -/
theorem algebraic [Cert.MlpUpDwIdeal.Facts] [Cert.MlpUpDwRefIdeal.Facts] : Cert.algebraic_MlpUpDwIdeal_MlpUpDwRefIdeal := by
  intro m g m' g' _ ha
  refine ⟨fun c => (Cert.MlpUpDwIdeal.Gen.dats m 0 c).arrAt 2 Cert.MlpUpDwIdeal.cfg0.N,
    (θ_run (Cert.MlpUpDwIdeal.defs (F := Ideal)) _ _).mono (fun r h c => h c) (Cert.MlpUpDwIdeal.Value.run_blocks m g),
    (θ_run (Cert.MlpUpDwRefIdeal.defs (F := Ideal)) _ _).mono (fun r h c => ⟨(h c).1.trans ?_, (h c).2⟩) (Cert.MlpUpDwRefIdeal.Value.run m' g')⟩
  obtain ⟨e0, e1⟩ := ha c
  rw [e0, e1]
  refine funext fun y => ?_
  rw [← ix3_eta y]
  exact (reference_at _ _ _ _ _).trans (Cert.MlpUpDwIdeal.Block.array m c _ _ _).symm

end Cert.Proof.UpWeights

end
-- ==== Proof.lean ====
/- The certificate: every claim, from the modules that prove it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Frames
public import proofs.«01_k».proof.Proof.Algebraic
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownDx
public import proofs.«01_k».proof.Proof.Gen.MlpDownDx.Skeleton
public import proofs.«01_k».proof.Proof.Gen.MlpDownDx.Launch
public import proofs.«01_k».proof.Proof.Gen.MlpDownDx.Points
public import proofs.«01_k».proof.Proof.Gen.MlpDownDx.Frame
public import proofs.«01_k».proof.Proof.Gen.MlpDownDxIdeal
public import proofs.«01_k».proof.Proof.Gen.MlpDownDxIdeal.Skeleton
public import proofs.«01_k».proof.Proof.Gen.MlpDownDxIdeal.Launch
public import proofs.«01_k».proof.Proof.Gen.MlpDownDxIdeal.Points
public import proofs.«01_k».proof.Proof.Gen.MlpDownDxIdeal.Frame
public import proofs.«01_k».proof.Proof.Gen.MlpDownDxIdeal.Value
public import proofs.«01_k».proof.Proof.Gen.MlpDownDxRefIdeal
public import proofs.«01_k».proof.Proof.Gen.MlpDownDxRefIdeal.Run
public import proofs.«01_k».proof.Proof.Gen.MlpDownDw
public import proofs.«01_k».proof.Proof.Gen.MlpDownDw.Skeleton
public import proofs.«01_k».proof.Proof.Gen.MlpDownDw.Launch
public import proofs.«01_k».proof.Proof.Gen.MlpDownDw.Points
public import proofs.«01_k».proof.Proof.Gen.MlpDownDw.Frame
public import proofs.«01_k».proof.Proof.Gen.MlpDownDwIdeal
public import proofs.«01_k».proof.Proof.Gen.MlpDownDwIdeal.Skeleton
public import proofs.«01_k».proof.Proof.Gen.MlpDownDwIdeal.Launch
public import proofs.«01_k».proof.Proof.Gen.MlpDownDwIdeal.Points
public import proofs.«01_k».proof.Proof.Gen.MlpDownDwIdeal.Frame
public import proofs.«01_k».proof.Proof.Gen.MlpDownDwIdeal.Value
public import proofs.«01_k».proof.Proof.Gen.MlpDownDwRefIdeal
public import proofs.«01_k».proof.Proof.Gen.MlpDownDwRefIdeal.Run
public import proofs.«01_k».proof.Proof.Gen.MlpUpDx
public import proofs.«01_k».proof.Proof.Gen.MlpUpDx.Skeleton
public import proofs.«01_k».proof.Proof.Gen.MlpUpDx.Launch
public import proofs.«01_k».proof.Proof.Gen.MlpUpDx.Points
public import proofs.«01_k».proof.Proof.Gen.MlpUpDx.Frame
public import proofs.«01_k».proof.Proof.Gen.MlpUpDxIdeal
public import proofs.«01_k».proof.Proof.Gen.MlpUpDxIdeal.Skeleton
public import proofs.«01_k».proof.Proof.Gen.MlpUpDxIdeal.Launch
public import proofs.«01_k».proof.Proof.Gen.MlpUpDxIdeal.Points
public import proofs.«01_k».proof.Proof.Gen.MlpUpDxIdeal.Frame
public import proofs.«01_k».proof.Proof.Gen.MlpUpDxIdeal.Value
public import proofs.«01_k».proof.Proof.Gen.MlpUpDxRefIdeal
public import proofs.«01_k».proof.Proof.Gen.MlpUpDxRefIdeal.Run
public import proofs.«01_k».proof.Proof.Gen.MlpUpDw
public import proofs.«01_k».proof.Proof.Gen.MlpUpDw.Skeleton
public import proofs.«01_k».proof.Proof.Gen.MlpUpDw.Launch
public import proofs.«01_k».proof.Proof.Gen.MlpUpDw.Points
public import proofs.«01_k».proof.Proof.Gen.MlpUpDw.Frame
public import proofs.«01_k».proof.Proof.Gen.MlpUpDwIdeal
public import proofs.«01_k».proof.Proof.Gen.MlpUpDwIdeal.Skeleton
public import proofs.«01_k».proof.Proof.Gen.MlpUpDwIdeal.Launch
public import proofs.«01_k».proof.Proof.Gen.MlpUpDwIdeal.Points
public import proofs.«01_k».proof.Proof.Gen.MlpUpDwIdeal.Frame
public import proofs.«01_k».proof.Proof.Gen.MlpUpDwIdeal.Value
public import proofs.«01_k».proof.Proof.Gen.MlpUpDwRefIdeal
public import proofs.«01_k».proof.Proof.Gen.MlpUpDwRefIdeal.Run
public import proofs.«01_k».proof.Proof.UpForward
public import proofs.«01_k».proof.Proof.DownForward
public import proofs.«01_k».proof.Proof.DownInputs
public import proofs.«01_k».proof.Proof.DownWeights
public import proofs.«01_k».proof.Proof.UpInputs
public import proofs.«01_k».proof.Proof.UpWeights
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.MlpUp.Gen.facts, Cert.MlpUpIdeal.Gen.facts, Cert.MlpUpRefIdeal.Gen.facts,
    Cert.MlpDown.Gen.facts, Cert.MlpDownIdeal.Gen.facts, Cert.MlpDownRefIdeal.Gen.facts,
    Cert.MlpDownDx.Gen.facts, Cert.MlpDownDxIdeal.Gen.facts, Cert.MlpDownDxRefIdeal.Gen.facts,
    Cert.MlpDownDw.Gen.facts, Cert.MlpDownDwIdeal.Gen.facts, Cert.MlpDownDwRefIdeal.Gen.facts,
    Cert.MlpUpDx.Gen.facts, Cert.MlpUpDxIdeal.Gen.facts, Cert.MlpUpDxRefIdeal.Gen.facts,
    Cert.MlpUpDw.Gen.facts, Cert.MlpUpDwIdeal.Gen.facts, Cert.MlpUpDwRefIdeal.Gen.facts,
    kernel_frame, kernelIdeal_frame, reference_frame,
    UpForward.kernel_frame, UpForward.ideal_frame, UpForward.reference_frame,
    DownForward.kernel_frame, DownForward.ideal_frame, DownForward.reference_frame,
    DownInputs.kernel_frame, DownInputs.ideal_frame, DownInputs.reference_frame,
    DownWeights.kernel_frame, DownWeights.ideal_frame, DownWeights.reference_frame,
    UpInputs.kernel_frame, UpInputs.ideal_frame, UpInputs.reference_frame,
    UpWeights.kernel_frame, UpWeights.ideal_frame, UpWeights.reference_frame,
    trivial, algebraic,
    trivial, UpForward.algebraic,
    trivial, DownForward.algebraic,
    trivial, DownInputs.algebraic,
    trivial, DownWeights.algebraic,
    trivial, UpInputs.algebraic,
    trivial, UpWeights.algebraic⟩

end Cert.Proof

end
